-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S4096x1024 : Shape := ⟨2, ![4096, 1024]⟩
abbrev S2x4096x512 : Shape := ⟨3, ![2, 4096, 512]⟩
abbrev S512x1024 : Shape := ⟨2, ![512, 1024]⟩
abbrev S8x512x1024 : Shape := ⟨3, ![8, 512, 1024]⟩
abbrev S8x128 : Shape := ⟨2, ![8, 128]⟩
abbrev S2 : Shape := ⟨1, ![2]⟩
abbrev S8 : Shape := ⟨1, ![8]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S512x512 : Shape := ⟨2, ![512, 512]⟩
abbrev S1x512x1024 : Shape := ⟨3, ![1, 512, 1024]⟩
abbrev S1x1x1 : Shape := ⟨3, ![1, 1, 1]⟩
abbrev S128 : Shape := ⟨1, ![128]⟩
abbrev S1x128 : Shape := ⟨2, ![1, 128]⟩
abbrev S1x1 : Shape := ⟨2, ![1, 1]⟩

abbrev nBuf : Space → Nat
  | .hbm => 3
  | .vmem => 8
  | .smem => 0
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S2x4096x512, .f32⟩
  | .local _ .vmem, ⟨3, _⟩ => ⟨S512x1024, .f32⟩
  | .local _ .vmem, ⟨4, _⟩ => ⟨S8x512x1024, .i8⟩
  | .local _ .vmem, ⟨5, _⟩ => ⟨S8x512x1024, .i8⟩
  | .local _ .vmem, ⟨6, _⟩ => ⟨S8x128, .f32⟩
  | .local _ .vmem, ⟨7, _⟩ => ⟨S8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c0_i32_30 : BitVec 32) (c0_i32_32 : BitVec 32) : Fin 2 → Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let v33 : BitVec 32 := Scalar.addi v32 c0_i32_30
  let c8_i32_31 : BitVec 32 := 8#32
  let v34 : BitVec 32 := Scalar.remsi v33 c8_i32_31
  let c1024_i32 : BitVec 32 := 1024#32
  let v35 : BitVec 32 := Scalar.muli v34 c1024_i32
  let v36 : BitVec 32 := Scalar.addi v35 c0_i32_32
  ![0, v36.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_117 : BitVec 32 := 0#32
  let c0_i32_118 : BitVec 32 := 0#32
  ![v2.toNat, 0, 0]
def k0_dev8 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v52 : BitVec 32 := Scalar.addi v2 c1_i32_47
  let c8_i32_48 : BitVec 32 := 8#32
  let v53 : BitVec 32 := Scalar.remsi v52 c8_i32_48
  let c1_i32_115 : BitVec 32 := 1#32
  let v133 : BitVec 32 := Scalar.muli v53 c1_i32_115
  let v134 : BitVec 32 := Scalar.addi c0_i32_116 v133
  v134.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_124 : BitVec 32 := 0#32
  ![v2.toNat, 0]
def k0_dev9 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_47 : BitVec 32 := 1#32
  let v52 : BitVec 32 := Scalar.addi v2 c1_i32_47
  let c8_i32_48 : BitVec 32 := 8#32
  let v53 : BitVec 32 := Scalar.remsi v52 c8_i32_48
  let c1_i32_122 : BitVec 32 := 1#32
  let v143 : BitVec 32 := Scalar.muli v53 c1_i32_122
  let v144 : BitVec 32 := Scalar.addi c0_i32_123 v143
  v144.toNat
def k0_dev10 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_127 : BitVec 32 := 2#32
  let v151 : BitVec 32 := Scalar.addi v2 c2_i32_127
  let c8_i32_128 : BitVec 32 := 8#32
  let v152 : BitVec 32 := Scalar.remsi v151 c8_i32_128
  let c1_i32_199 : BitVec 32 := 1#32
  let v232 : BitVec 32 := Scalar.muli v152 c1_i32_199
  let v233 : BitVec 32 := Scalar.addi c0_i32_200 v232
  v233.toNat
def k0_dev11 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_127 : BitVec 32 := 2#32
  let v151 : BitVec 32 := Scalar.addi v2 c2_i32_127
  let c8_i32_128 : BitVec 32 := 8#32
  let v152 : BitVec 32 := Scalar.remsi v151 c8_i32_128
  let c1_i32_206 : BitVec 32 := 1#32
  let v242 : BitVec 32 := Scalar.muli v152 c1_i32_206
  let v243 : BitVec 32 := Scalar.addi c0_i32_207 v242
  v243.toNat
def k0_dev12 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_211 : BitVec 32 := 3#32
  let v250 : BitVec 32 := Scalar.addi v2 c3_i32_211
  let c8_i32_212 : BitVec 32 := 8#32
  let v251 : BitVec 32 := Scalar.remsi v250 c8_i32_212
  let c1_i32_282 : BitVec 32 := 1#32
  let v331 : BitVec 32 := Scalar.muli v251 c1_i32_282
  let v332 : BitVec 32 := Scalar.addi c0_i32_283 v331
  v332.toNat
def k0_dev13 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_211 : BitVec 32 := 3#32
  let v250 : BitVec 32 := Scalar.addi v2 c3_i32_211
  let c8_i32_212 : BitVec 32 := 8#32
  let v251 : BitVec 32 := Scalar.remsi v250 c8_i32_212
  let c1_i32_289 : BitVec 32 := 1#32
  let v341 : BitVec 32 := Scalar.muli v251 c1_i32_289
  let v342 : BitVec 32 := Scalar.addi c0_i32_290 v341
  v342.toNat
def k0_dev14 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_294 : BitVec 32 := 4#32
  let v349 : BitVec 32 := Scalar.addi v2 c4_i32_294
  let c8_i32_295 : BitVec 32 := 8#32
  let v350 : BitVec 32 := Scalar.remsi v349 c8_i32_295
  let c1_i32_365 : BitVec 32 := 1#32
  let v430 : BitVec 32 := Scalar.muli v350 c1_i32_365
  let v431 : BitVec 32 := Scalar.addi c0_i32_366 v430
  v431.toNat
def k0_dev15 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_294 : BitVec 32 := 4#32
  let v349 : BitVec 32 := Scalar.addi v2 c4_i32_294
  let c8_i32_295 : BitVec 32 := 8#32
  let v350 : BitVec 32 := Scalar.remsi v349 c8_i32_295
  let c1_i32_372 : BitVec 32 := 1#32
  let v440 : BitVec 32 := Scalar.muli v350 c1_i32_372
  let v441 : BitVec 32 := Scalar.addi c0_i32_373 v440
  v441.toNat
def k0_dev16 (d0 : Dev nD) : Nat :=
  let c0_i32_449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_377 : BitVec 32 := 5#32
  let v448 : BitVec 32 := Scalar.addi v2 c5_i32_377
  let c8_i32_378 : BitVec 32 := 8#32
  let v449 : BitVec 32 := Scalar.remsi v448 c8_i32_378
  let c1_i32_448 : BitVec 32 := 1#32
  let v529 : BitVec 32 := Scalar.muli v449 c1_i32_448
  let v530 : BitVec 32 := Scalar.addi c0_i32_449 v529
  v530.toNat
def k0_dev17 (d0 : Dev nD) : Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_377 : BitVec 32 := 5#32
  let v448 : BitVec 32 := Scalar.addi v2 c5_i32_377
  let c8_i32_378 : BitVec 32 := 8#32
  let v449 : BitVec 32 := Scalar.remsi v448 c8_i32_378
  let c1_i32_455 : BitVec 32 := 1#32
  let v539 : BitVec 32 := Scalar.muli v449 c1_i32_455
  let v540 : BitVec 32 := Scalar.addi c0_i32_456 v539
  v540.toNat
def k0_dev18 (d0 : Dev nD) : Nat :=
  let c0_i32_532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_460 : BitVec 32 := 6#32
  let v547 : BitVec 32 := Scalar.addi v2 c6_i32_460
  let c8_i32_461 : BitVec 32 := 8#32
  let v548 : BitVec 32 := Scalar.remsi v547 c8_i32_461
  let c1_i32_531 : BitVec 32 := 1#32
  let v628 : BitVec 32 := Scalar.muli v548 c1_i32_531
  let v629 : BitVec 32 := Scalar.addi c0_i32_532 v628
  v629.toNat
def k0_dev19 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_460 : BitVec 32 := 6#32
  let v547 : BitVec 32 := Scalar.addi v2 c6_i32_460
  let c8_i32_461 : BitVec 32 := 8#32
  let v548 : BitVec 32 := Scalar.remsi v547 c8_i32_461
  let c1_i32_538 : BitVec 32 := 1#32
  let v638 : BitVec 32 := Scalar.muli v548 c1_i32_538
  let v639 : BitVec 32 := Scalar.addi c0_i32_539 v638
  v639.toNat
def k0_dev20 (d0 : Dev nD) : Nat :=
  let c0_i32_615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_543 : BitVec 32 := 7#32
  let v646 : BitVec 32 := Scalar.addi v2 c7_i32_543
  let c8_i32_544 : BitVec 32 := 8#32
  let v647 : BitVec 32 := Scalar.remsi v646 c8_i32_544
  let c1_i32_614 : BitVec 32 := 1#32
  let v727 : BitVec 32 := Scalar.muli v647 c1_i32_614
  let v728 : BitVec 32 := Scalar.addi c0_i32_615 v727
  v728.toNat
def k0_dev21 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_543 : BitVec 32 := 7#32
  let v646 : BitVec 32 := Scalar.addi v2 c7_i32_543
  let c8_i32_544 : BitVec 32 := 8#32
  let v647 : BitVec 32 := Scalar.remsi v646 c8_i32_544
  let c1_i32_621 : BitVec 32 := 1#32
  let v737 : BitVec 32 := Scalar.muli v647 c1_i32_621
  let v738 : BitVec 32 := Scalar.addi c0_i32_622 v737
  v738.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v807 : Index := Scalar.indexCast v2
  let c0_676 : Index := 0#32
  let c0_677 : Index := 0#32
  ![v807.toNat, 0, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v812 : Index := Scalar.indexCast v2
  let c0_678 : Index := 0#32
  ![v812.toNat, 0]
def k0_off7 (d0 : Dev nD) (c1_i32_679 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v816 : BitVec 32 := Scalar.addi v2 c1_i32_679
  let c8_i32_680 : BitVec 32 := 8#32
  let v817 : BitVec 32 := Scalar.remsi v816 c8_i32_680
  ![v817.toNat]
def k0_off8 (d0 : Dev nD) (c1_i32_679 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v816 : BitVec 32 := Scalar.addi v2 c1_i32_679
  let c8_i32_680 : BitVec 32 := 8#32
  let v817 : BitVec 32 := Scalar.remsi v816 c8_i32_680
  let c0_i32_685 : BitVec 32 := 0#32
  let c0_i32_686 : BitVec 32 := 0#32
  ![v817.toNat, 0, 0]
def k0_off9 (d0 : Dev nD) (c1_i32_679 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v816 : BitVec 32 := Scalar.addi v2 c1_i32_679
  let c8_i32_680 : BitVec 32 := 8#32
  let v817 : BitVec 32 := Scalar.remsi v816 c8_i32_680
  let c0_i32_692 : BitVec 32 := 0#32
  ![v817.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S8x512x8x1024 : Shape := ⟨4, ![8, 512, 8, 1024]⟩
abbrev S_ : Shape := ⟨0, ![]⟩
abbrev S8x8 : Shape := ⟨2, ![8, 8]⟩
abbrev S8x1x8x1 : Shape := ⟨4, ![8, 1, 8, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S8x512x8x1024, .f32⟩
  | .hbm, ⟨4, _⟩ => ⟨S8x512x8x1024, .f32⟩
  | .hbm, ⟨5, _⟩ => ⟨S_, .f32⟩
  | .hbm, ⟨6, _⟩ => ⟨S8x8, .f32⟩
  | .hbm, ⟨7, _⟩ => ⟨S8x1x8x1, .f32⟩
  | .hbm, ⟨8, _⟩ => ⟨S_, .f32⟩
  | .hbm, ⟨9, _⟩ => ⟨S8x1x8x1, .f32⟩
  | .hbm, ⟨10, _⟩ => ⟨S8x1x8x1, .f32⟩
  | .hbm, ⟨11, _⟩ => ⟨S_, .f32⟩
  | .hbm, ⟨12, _⟩ => ⟨S8x1x8x1, .f32⟩
  | .hbm, ⟨13, _⟩ => ⟨S8x1x8x1, .f32⟩
  | .hbm, ⟨14, _⟩ => ⟨S8x512x8x1024, .f32⟩
  | .hbm, ⟨15, _⟩ => ⟨S8x512x8x1024, .f32⟩
  | .hbm, ⟨16, _⟩ => ⟨S8x512x8x1024, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8x512x8x1024, .f32⟩
  | .hbm, ⟨21, _⟩ => ⟨S8x512x8x1024, .f32⟩
  | .hbm, ⟨22, _⟩ => ⟨S_, .f32⟩
  | .hbm, ⟨23, _⟩ => ⟨S8x512x8x1024, .f32⟩
  | .hbm, ⟨24, _⟩ => ⟨S8x512x8x1024, .f32⟩
  | .hbm, ⟨25, _⟩ => ⟨S8x512x8x1024, .f32⟩
  | .hbm, ⟨26, _⟩ => ⟨S8x512x8x1024, .f32⟩
  | .hbm, ⟨27, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proof.Steps.lean ====
/-
The kernel's body as a sequence of named steps: fetch a tile of the weights, multiply it in, quantise a block, send it,
wait for a peer's block, write a block of the result, wait for a send. Each step is stated once at a symbolic index, and
the body is the steps in order.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.Kit

@[expose] public section

noncomputable section

namespace Cert.KernelIdeal.Pf

open Cert.KernelIdeal Cert.KernelIdeal.Gen
open Idealize.ShloMosaic Idealize.ShloMosaic.TcCoe
open Idealize.SL.Sem

variable {F : FTy → Type} [FloatOps F]

/-! ## The buffers -/

abbrev xM : Memref sig .tc .vmem S512x4096 .f32 := Memref.whole cc0_stg0_0
abbrev oM : Memref sig .tc .vmem S4096x1024 .f32 := Memref.whole cc0_stg1_0
abbrev gM : Memref sig .tc .hbm S4096x8192 .f32 := Memref.whole main_arg1
abbrev wM : Memref sig .tc .vmem S2x4096x512 .f32 := Memref.whole cc0_scratch0
abbrev yM : Memref sig .tc .vmem S512x1024 .f32 := Memref.whole cc0_scratch1
abbrev qM : Memref sig .tc .vmem S8x512x1024 .i8 := Memref.whole cc0_scratch2
abbrev dM : Memref sig .tc .vmem S8x512x1024 .i8 := Memref.whole cc0_scratch3
abbrev sM : Memref sig .tc .vmem S8x128 .f32 := Memref.whole cc0_scratch4
abbrev rM : Memref sig .tc .vmem S8x128 .f32 := Memref.whole cc0_scratch5

/-! ## Where the rectangles lie -/

theorem inbW : ∀ t : Fin 2, ∀ i, (![t.val, 0, 0] : Fin 3 → Nat) i + S1x4096x512.size i ≤ S2x4096x512.size i := by decide
theorem inbT : ∀ t : Fin 2, ∀ i, (![t.val] : Fin 1 → Nat) i + S1.size i ≤ S2.size i := by decide
theorem inbY : ∀ t : Fin 2, ∀ i, (![0, 512 * t.val] : Fin 2 → Nat) i + S512x512.size i ≤ S512x1024.size i := by decide
theorem inbQ : ∀ a : Fin 8, ∀ i, (![a.val, 0, 0] : Fin 3 → Nat) i + S1x512x1024.size i ≤ S8x512x1024.size i := by decide
theorem inbS : ∀ a : Fin 8, ∀ i, (![a.val, 0] : Fin 2 → Nat) i + S1x128.size i ≤ S8x128.size i := by decide
theorem inbE : ∀ a : Fin 8, ∀ i, (![a.val, 0] : Fin 2 → Nat) i + S1x1.size i ≤ S8x128.size i := by decide
theorem inbA : ∀ a : Fin 8, ∀ i, (![a.val] : Fin 1 → Nat) i + S1.size i ≤ S8.size i := by decide
theorem inbO : ∀ a : Fin 8, ∀ i, (![512 * a.val, 0] : Fin 2 → Nat) i + S512x1024.size i ≤ S4096x1024.size i := by decide

theorem wordsQ (a : Fin 8) : (Rect.unit (s := S8x512x1024) ![a.val, 0, 0] S1x512x1024.size (inbQ a)).WholeWords (EltTy.packing .i8) := by
  have h := k0_off3_wordsi8 a
  simp only [k0_off3_eq] at h
  exact h
theorem packedQ (a : Fin 8) : (Rect.unit (s := S8x512x1024) ![a.val, 0, 0] S1x512x1024.size (inbQ a)).PackedRows (EltTy.packing .i8) := by
  have h := k0_off5_packedi8 a
  simp only [k0_off5_eq] at h
  exact h

abbrev rW (t : Fin 2) : Rect S2x4096x512 := Rect.unit (s := S2x4096x512) ![t.val, 0, 0] S1x4096x512.size (inbW t)
abbrev rY (t : Fin 2) : Rect S512x1024 := Rect.unit (s := S512x1024) ![0, 512 * t.val] S512x512.size (inbY t)
abbrev rQ (a : Fin 8) : Rect S8x512x1024 := Rect.unit (s := S8x512x1024) ![a.val, 0, 0] S1x512x1024.size (inbQ a)
abbrev rS (a : Fin 8) : Rect S8x128 := Rect.unit (s := S8x128) ![a.val, 0] S1x128.size (inbS a)
abbrev rE (a : Fin 8) : Rect S8x128 := Rect.unit (s := S8x128) ![a.val, 0] S1x1.size (inbE a)
abbrev rO (a : Fin 8) : Rect S4096x1024 := Rect.unit (s := S4096x1024) ![512 * a.val, 0] S512x1024.size (inbO a)
abbrev rG (c : Dev nD) (a : Fin 8) (t : Fin 2) : Rect S4096x8192 :=
  Rect.unit (s := S4096x8192) (k0_off1 c (BitVec.ofNat 32 a.val) (BitVec.ofNat 32 (512 * t.val))) S4096x512.size (k0_off1_inb c a t)

/-! ## The slices the copies name -/

/-- The columns of the weights that tile `t` of phase `a` multiplies by. -/
abbrev gSrc (c : Dev nD) (a : Fin 8) (t : Fin 2) : Memref sig .tc .hbm S4096x512 .f32 := gM.slice (rG c a t) (fun _ => rfl)
abbrev wDst (t : Fin 2) : Memref sig .tc .vmem S4096x512 .f32 := (wM.slice (rW t) (fun _ => rfl)).squeeze S4096x512 squeezes_S1x4096x512_S4096x512
abbrev qSrc (a : Fin 8) : Memref sig .tc .vmem S512x1024 .i8 := (qM.slice (rQ a) (fun _ => rfl)).squeeze S512x1024 squeezes_S1x512x1024_S512x1024
abbrev dDst (p : Fin 8) : Memref sig .tc .vmem S512x1024 .i8 := (dM.slice (rQ p) (fun _ => rfl)).squeeze S512x1024 squeezes_S1x512x1024_S512x1024
abbrev sSrc (a : Fin 8) : Memref sig .tc .vmem S1x128 .f32 := sM.slice (rS a) (fun _ => rfl)
abbrev rDst (p : Fin 8) : Memref sig .tc .vmem S1x128 .f32 := rM.slice (rS p) (fun _ => rfl)

theorem qSrc_words (a : Fin 8) : (qSrc a).view.WordExact := ((Memref.isWhole_whole cc0_scratch2).wordExact_slice rfl _ (wordsQ a)).reshape _ _
theorem dDst_words (p : Fin 8) : (dDst p).view.WordExact := ((Memref.isWhole_whole cc0_scratch3).wordExact_slice rfl _ (wordsQ p)).reshape _ _

/-! ## The semaphores -/

abbrev barS : Sem sig := (SemArray.scalar (sig.barrier 0 rfl) : Sems sig S_).sem
abbrev wSem (t : Fin 2) : DmaSem sig := ((cc0_scratch6.slice (Rect.unit (s := S2) ![t.val] S1.size (inbT t))).squeeze S_ squeezes_S1_S_).sem
abbrev at8 (A : DmaSems sig S8) (a : Fin 8) : DmaSem sig := ((A.slice (Rect.unit (s := S8) ![a.val] S1.size (inbA a))).squeeze S_ squeezes_S1_S_).sem
abbrev dsSem (a : Fin 8) : DmaSem sig := at8 cc0_scratch7 a
abbrev drSem (a : Fin 8) : DmaSem sig := at8 cc0_scratch8 a
abbrev ssSem (a : Fin 8) : DmaSem sig := at8 cc0_scratch9 a
abbrev srSem (a : Fin 8) : DmaSem sig := at8 cc0_scratch10 a

/-! ## The values the steps store -/

/-- A tile of the product: the rows of `x` by 512 columns of the weights. -/
abbrev tileVal (x : FVec F S512x4096 .f32) (w : Vec F S1x4096x512 .f32) : FVec F S512x512 .f32 := k0_pay1 x w
/-- The quantised block, and the block's scale along a row. -/
abbrev quantVal (y : FVec F S512x1024 .f32) : Vec F S1x512x1024 .i8 := k0_pay4 y
abbrev scaleVal (y : FVec F S512x1024 .f32) : FVec F S1x128 .f32 := k0_pay5 y
/-- A block of the result from the quantised block and its scale. -/
abbrev outVal (q : Vec F S1x512x1024 .i8) (s : FVec F S1x1 .f32) : FVec F S512x1024 .f32 := k0_pay50 q s

/-! ## The steps -/

abbrev PR (F : FTy → Type) [FloatOps F] (α : Type) := Prog (TpuEff nD τ sig (Elt F) Λ₀ .tc) α

/-- Start the copy of a tile of the weights into slot `t`. -/
def startP (src : Memref sig .tc .hbm S4096x512 .f32) (t : Fin 2) (h : src.view.WordExact) : PR F PUnit :=
  Prog.lift (.enqueueDma src (.here (wDst t)) (.dma (wSem t)) h ((View.wordExact_bits rfl).reshape _ _) ⟨Or.inl rfl, trivial⟩)

/-- Wait for slot `t`'s copy, multiply, and store the tile's half of the block. -/
def tileP (src : Memref sig .tc .hbm S4096x512 .f32) (t : Fin 2) (h : src.view.WordExact) : PR F PUnit := do
  Prog.lift (.waitDma2 (wSem t) src (wDst t) h ((View.wordExact_bits rfl).reshape _ _))
  let x : Vec F S512x4096 .f32 ← Prog.lift (.load xM (Rect.unit (s := S512x4096) ![0, 0] S512x4096.size inb_S512x4096_S512x4096_0_0).toLoadRect (View.loadsAt_vmem h_S512x4096))
  let w : Vec F S1x4096x512 .f32 ← Prog.lift (.load wM (rW t).toLoadRect (View.loadsAt_vmem h_S1x4096x512))
  let _ : Vec F S512x512 .f32 ← Prog.lift (.load yM (rY t).toLoadRect (View.loadsAt_vmem h_S512x512))
  Prog.lift (.store yM (rY t) (tileVal x w) Finset.univ (View.stores_vmem_bits_univ h_S512x512 rfl) (.inl rfl))

/-- Quantise the block of the product into slot `a`, its scale into row `a`. -/
def quantP (a : Fin 8) : PR F (FVec F S512x1024 .f32) := do
  let y : Vec F S512x1024 .f32 ← Prog.lift (.load yM (Rect.unit (s := S512x1024) ![0, 0] S512x1024.size inb_S512x1024_S512x1024_0_0).toLoadRect (View.loadsAt_vmem h_S512x1024))
  let _ : Vec F S1x512x1024 .i8 ← Prog.lift (.load qM (rQ a).toLoadRect (View.loadsAt_vmem h_S1x512x1024))
  Prog.lift (.store qM (rQ a) (quantVal y) Finset.univ (View.stores_vmem h_S1x512x1024 ((Memref.isWhole_whole cc0_scratch2).storeExact_slice rfl _ (packedQ a)) (fun _ => rfl)) (.inl rfl))
  let _ : Vec F S1x128 .f32 ← Prog.lift (.load sM (rS a).toLoadRect (View.loadsAt_vmem h_S1x128))
  Prog.lift (.store sM (rS a) (scaleVal y) Finset.univ (View.stores_vmem_bits_univ h_S1x128 rfl) (.inl rfl))
  pure y

/-- Send slot `a` and row `a` to the device `dst`. -/
def sendP (a : Fin 8) (dst : Dev nD) (ds : Memref sig .tc .vmem S512x1024 .i8) (hds : ds.view.WordExact) (dr : DmaSem sig)
    (rs : Memref sig .tc .vmem S1x128 .f32) (hrs : rs.view.WordExact) (sr : DmaSem sig) : PR F PUnit := do
  Prog.lift (.enqueueDma (qSrc a) (.remote (Dev.tc dst) ds (.dma (dsSem a))) (.dma dr) (qSrc_words a) hds ⟨⟨rfl, Or.inl rfl⟩, trivial⟩)
  Prog.lift (.enqueueDma (sSrc a) (.remote (Dev.tc dst) rs (.dma (ssSem a))) (.dma sr) (View.wordExact_bits rfl) hrs ⟨⟨rfl, Or.inl rfl⟩, trivial⟩)

/-- Keep the device's own block: slot 7 into its own slot, the scale into its own row. -/
def ownP (y : FVec F S512x1024 .f32) (od : Fin 3 → Nat) (hod : ∀ i, od i + S1x512x1024.size i ≤ S8x512x1024.size i)
    (hpk : (Rect.unit (s := S8x512x1024) od S1x512x1024.size hod).PackedRows (EltTy.packing .i8))
    (or : Fin 2 → Nat) (hor : ∀ i, or i + S1x128.size i ≤ S8x128.size i) : PR F PUnit := do
  let q : Vec F S1x512x1024 .i8 ← Prog.lift (.load qM (rQ 7).toLoadRect (View.loadsAt_vmem h_S1x512x1024))
  let _ : Vec F S1x512x1024 .i8 ← Prog.lift (.load dM (Rect.unit (s := S8x512x1024) od S1x512x1024.size hod).toLoadRect (View.loadsAt_vmem h_S1x512x1024))
  Prog.lift (.store dM (Rect.unit (s := S8x512x1024) od S1x512x1024.size hod) (k0_pay48 q) Finset.univ (View.stores_vmem h_S1x512x1024 ((Memref.isWhole_whole cc0_scratch3).storeExact_slice rfl _ hpk) (fun _ => rfl)) (.inl rfl))
  let _ : Vec F S1x128 .f32 ← Prog.lift (.load rM (Rect.unit (s := S8x128) or S1x128.size hor).toLoadRect (View.loadsAt_vmem h_S1x128))
  Prog.lift (.store rM (Rect.unit (s := S8x128) or S1x128.size hor) (k0_pay49 (k0_pay44 y)) Finset.univ (View.stores_vmem_bits_univ h_S1x128 rfl) (.inl rfl))

/-- Wait for a peer's block and its scale. -/
def recvP (ds : Memref sig .tc .vmem S512x1024 .i8) (hds : ds.view.WordExact) (dr : DmaSem sig)
    (rs : Memref sig .tc .vmem S1x128 .f32) (hrs : rs.view.WordExact) (sr : DmaSem sig) : PR F PUnit := do
  Prog.lift (.waitDma2 dr (qSrc 0) ds (qSrc_words 0) hds)
  Prog.lift (.waitDma2 sr (sSrc 0) rs (View.wordExact_bits rfl) hrs)

/-- Write block `j` of the result. -/
def outP (j : Fin 8) : PR F PUnit := do
  let q : Vec F S1x512x1024 .i8 ← Prog.lift (.load dM (rQ j).toLoadRect (View.loadsAt_vmem h_S1x512x1024))
  let s : Vec F S1x1 .f32 ← Prog.lift (.load rM (rE j).toLoadRect (View.loadsAt_vmem h_S1x1))
  let _ : Vec F S512x1024 .f32 ← Prog.lift (.load oM (rO j).toLoadRect (View.loadsAt_vmem h_S512x1024))
  Prog.lift (.store oM (rO j) (outVal q s) Finset.univ (View.stores_vmem_bits_univ h_S512x1024 rfl) (.inl rfl))

/-- Wait for the two sends of phase `a`. -/
def drainP (a : Fin 8) (ds : Memref sig .tc .vmem S512x1024 .i8) (hds : ds.view.WordExact)
    (rs : Memref sig .tc .vmem S1x128 .f32) (hrs : rs.view.WordExact) : PR F PUnit := do
  Prog.lift (.waitDma2 (dsSem a) ds (qSrc a) hds (qSrc_words a))
  Prog.lift (.waitDma2 (ssSem a) rs (sSrc a) hrs (View.wordExact_bits rfl))

/-! ## The body, the device's own addresses as printed -/

abbrev dAt (off : Fin 3 → Nat) (h : ∀ i, off i + S1x512x1024.size i ≤ S8x512x1024.size i) : Memref sig .tc .vmem S512x1024 .i8 :=
  (dM.slice (Rect.unit (s := S8x512x1024) off S1x512x1024.size h) (fun _ => rfl)).squeeze S512x1024 squeezes_S1x512x1024_S512x1024
theorem dAt_words (off : Fin 3 → Nat) (h : ∀ i, off i + S1x512x1024.size i ≤ S8x512x1024.size i)
    (hw : (Rect.unit (s := S8x512x1024) off S1x512x1024.size h).WholeWords (EltTy.packing .i8)) : (dAt off h).view.WordExact :=
  ((Memref.isWhole_whole cc0_scratch3).wordExact_slice rfl _ hw).reshape _ _
abbrev rAt (off : Fin 2 → Nat) (h : ∀ i, off i + S1x128.size i ≤ S8x128.size i) : Memref sig .tc .vmem S1x128 .f32 :=
  rM.slice (Rect.unit (s := S8x128) off S1x128.size h) (fun _ => rfl)
abbrev semAt (A : DmaSems sig S8) (off : Fin 1 → Nat) (h : ∀ i, off i + S1.size i ≤ S8.size i) : DmaSem sig :=
  ((A.slice (Rect.unit (s := S8) off S1.size h)).squeeze S_ squeezes_S1_S_).sem

def start (c : Dev nD) (a : Fin 8) (t : Fin 2) : PR F PUnit := startP (gSrc c a t) t (View.wordExact_bits rfl)
def tile (c : Dev nD) (a : Fin 8) (t : Fin 2) : PR F PUnit := tileP (gSrc c a t) t (View.wordExact_bits rfl)
def send (c : Dev nD) (a : Fin 8) (dst : Dev nD) : PR F PUnit :=
  sendP a dst (dAt (k0_off3 c) (k0_off3_inb c)) (dAt_words _ _ (k0_off3_wordsi8 c)) (semAt cc0_scratch8 (k0_off2 c) (k0_off2_inb c))
    (rAt (k0_off4 c) (k0_off4_inb c)) (View.wordExact_bits rfl) (semAt cc0_scratch10 (k0_off2 c) (k0_off2_inb c))
def recv (c : Dev nD) (r : Fin 7) : PR F PUnit :=
  recvP (dAt (k0_off8 c (BitVec.ofNat 32 (1 + r.val))) (k0_off8_inb c r)) (dAt_words _ _ (k0_off8_wordsi8 c r))
    (semAt cc0_scratch8 (k0_off7 c (BitVec.ofNat 32 (1 + r.val))) (k0_off7_inb c r))
    (rAt (k0_off9 c (BitVec.ofNat 32 (1 + r.val))) (k0_off9_inb c r)) (View.wordExact_bits rfl)
    (semAt cc0_scratch10 (k0_off7 c (BitVec.ofNat 32 (1 + r.val))) (k0_off7_inb c r))
def drain (c : Dev nD) (a : Fin 8) : PR F PUnit :=
  drainP a (dAt (k0_off3 c) (k0_off3_inb c)) (dAt_words _ _ (k0_off3_wordsi8 c)) (rAt (k0_off4 c) (k0_off4_inb c)) (View.wordExact_bits rfl)
def own (c : Dev nD) (y : FVec F S512x1024 .f32) : PR F PUnit :=
  ownP y (k0_off5 c) (k0_off5_inb c) (k0_off5_packedi8 c) (k0_off6 c) (k0_off6_inb c)

/-- Phase `a`: multiply both tiles, each time starting the next phase's copy; quantise; send. -/
def phase (c : Dev nD) (a : Fin 7) (dst : Dev nD) : PR F PUnit := do
  tile c a.castSucc 0
  start c a.succ 0
  tile c a.castSucc 1
  start c a.succ 1
  let _ ← quantP a.castSucc
  send c a.castSucc dst

def signals (c : Dev nD) : PR F PUnit := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semSignalWord (⟨k0_dev4 c, k0_dev4_lt c⟩ : Dev nD) barS 1#32
  semSignalWord (⟨k0_dev5 c, k0_dev5_lt c⟩ : Dev nD) barS 1#32
  semSignalWord (⟨k0_dev6 c, k0_dev6_lt c⟩ : Dev nD) barS 1#32
  semSignalWord (⟨k0_dev7 c, k0_dev7_lt c⟩ : Dev nD) barS 1#32

def sends (c : Dev nD) : PR F PUnit := do
  phase c 0 (⟨k0_dev8 c, k0_dev8_lt c⟩ : Dev nD)
  phase c 1 (⟨k0_dev10 c, k0_dev10_lt c⟩ : Dev nD)
  phase c 2 (⟨k0_dev12 c, k0_dev12_lt c⟩ : Dev nD)
  phase c 3 (⟨k0_dev14 c, k0_dev14_lt c⟩ : Dev nD)
  phase c 4 (⟨k0_dev16 c, k0_dev16_lt c⟩ : Dev nD)
  phase c 5 (⟨k0_dev18 c, k0_dev18_lt c⟩ : Dev nD)
  phase c 6 (⟨k0_dev20 c, k0_dev20_lt c⟩ : Dev nD)

def recvs (c : Dev nD) : PR F PUnit := do
  recv c 0; recv c 1; recv c 2; recv c 3; recv c 4; recv c 5; recv c 6
def outs : PR F PUnit := do
  outP 0; outP 1; outP 2; outP 3; outP 4; outP 5; outP 6; outP 7
def drains (c : Dev nD) : PR F PUnit := do
  drain c 0; drain c 1; drain c 2; drain c 3; drain c 4; drain c 5; drain c 6

def body : PR F PUnit := do
  let c : Dev nD ← Prog.lift .deviceId
  signals c
  semWaitWord barS 7#32
  start c 0 0
  start c 0 1
  sends c
  tile c 7 0
  tile c 7 1
  let y ← quantP 7
  own c y
  recvs c
  outs
  drains c

theorem body_eq (t : Fin cfg0.N) : (bodyAt0 t : PR F PUnit) = body := by
  chain_rfl

end Cert.KernelIdeal.Pf
-- ==== Proof.Views.lean ====
/-
The rectangles and copies of the body, read and written: where each slice's elements lie, what a slot reads after a copy
or a store, and how two slots of a buffer are apart.
-/
module

public import proofs.«01_k».proof.Proof.Steps
public import Idealize.ShloMosaic.Lib.ValueIdxCore

@[expose] public section

noncomputable section

namespace Cert.KernelIdeal.Pf

open Cert.KernelIdeal Cert.KernelIdeal.Gen
open Idealize.ShloMosaic Idealize.ShloMosaic.TcCoe
open Idealize.SL.Sem

variable {F : FTy → Type} [FloatOps F]

/-! ## The elements of the slices -/

theorem set_wDst (t : Fin 2) : (wDst t).view.set = (rW t).set := (View.set_reshape _ _).trans (View.set_slice_whole _ _)
theorem set_qSrc (a : Fin 8) : (qSrc a).view.set = (rQ a).set := (View.set_reshape _ _).trans (View.set_slice_whole _ _)
theorem set_dDst (p : Fin 8) : (dDst p).view.set = (rQ p).set := (View.set_reshape _ _).trans (View.set_slice_whole _ _)
theorem set_sSrc (a : Fin 8) : (sSrc a).view.set = (rS a).set := View.set_slice_whole _ _
theorem set_rDst (p : Fin 8) : (rDst p).view.set = (rS p).set := View.set_slice_whole _ _
theorem set_gSrc (c : Dev nD) (a : Fin 8) (t : Fin 2) : (gSrc c a t).view.set = (rG c a t).set := View.set_slice_whole _ _

theorem on_whole {sp : CoreSpace} (b : Ref sig .tc) (r : LoadRect b.ty.shape) : (View.whole b).setOn r.set = r.set := by
  show Finset.map (Function.Embedding.refl _) _ = _
  exact Finset.map_refl

/-! ## Reading after writing -/

section Generic
variable {Val : EltTy → Type} {κ : Kind} {sp : CoreSpace} {s s' : Shape} {e : EltTy}

/-- A view read after its reshaped self was written. -/
theorem read_write_reshape (v : View sig κ sp s e) (h : s'.numel = s.numel) (f : v.ty.Contents Val) (w : s'.Idx → Val e) :
    v.read Val ((v.reshape s' h).write Val f w Finset.univ) = fun x => w ((Shape.reshapeEquiv h).symm x) := by
  funext x
  have e1 : v.read Val ((v.reshape s' h).write Val f w Finset.univ) x
      = (v.reshape s' h).read Val ((v.reshape s' h).write Val f w Finset.univ) ((Shape.reshapeEquiv h).symm x) := by
    show _ = v.read Val _ (Shape.reshapeEquiv h ((Shape.reshapeEquiv h).symm x))
    rw [Equiv.apply_symm_apply]
  rw [e1, View.read_write_univ]

end Generic

theorem land_d (a p : Fin 8) (fd : (cc0_scratch3 : Ref sig .tc).ty.Contents (Elt F)) (fs : (cc0_scratch2 : Ref sig .tc).ty.Contents (Elt F)) :
    dM.view.readAt (Elt F) (rQ p).toLoadRect ((dDst p).view.write (Elt F) fd ((qSrc a).view.read (Elt F) fs) Finset.univ)
      = qM.view.readAt (Elt F) (rQ a).toLoadRect fs := by
  refine (read_write_reshape (dM.view.slice (rQ p)) _ fd _).trans (funext fun x => ?_)
  show (qM.view.slice (rQ a)).read (Elt F) fs (Shape.reshapeEquiv _ ((Shape.reshapeEquiv _).symm x)) = _
  rw [Equiv.apply_symm_apply]; rfl

theorem land_s (a p : Fin 8) (fd : (cc0_scratch5 : Ref sig .tc).ty.Contents (Elt F)) (fs : (cc0_scratch4 : Ref sig .tc).ty.Contents (Elt F)) :
    rM.view.readAt (Elt F) (rS p).toLoadRect ((rDst p).view.write (Elt F) fd ((sSrc a).view.read (Elt F) fs) Finset.univ)
      = sM.view.readAt (Elt F) (rS a).toLoadRect fs :=
  View.read_write_univ (v := rM.view.slice (rS p)) fd _

/-- The tile of the weights, as the slot it is copied into reads. -/
def wTile (g : Vec F S4096x8192 .f32) (b : Fin 8) (t : Fin 2) : Vec F S1x4096x512 .f32 :=
  shapeCast S1x4096x512 (fun i : S4096x512.Idx => g (ValueIdx.ix2 (i 0) ⟨1024 * b.val + 512 * t.val + (i 1).val, by
    have h1 : (i 1).val < 512 := (i 1).isLt
    have := b.isLt; have := t.isLt; omega⟩)) (by decide)

/-- The block's two halves, side by side. -/
def yJoin (v : Fin 2 → FVec F S512x512 .f32) : FVec F S512x1024 .f32 := fun i =>
  if h : (i 1).val < 512 then v 0 (ValueIdx.ix2 (i 0) ⟨(i 1).val, h⟩)
  else v 1 (ValueIdx.ix2 (i 0) ⟨(i 1).val - 512, by have h1 : (i 1).val < 1024 := (i 1).isLt; omega⟩)

theorem gSrc_off (c : Dev nD) (a : Fin 8) (t : Fin 2) :
    k0_off1 c (BitVec.ofNat 32 a.val) (BitVec.ofNat 32 (512 * t.val)) = ![0, 1024 * ((c.val + a.val + 1) % 8) + 512 * t.val] := k0_off1_eq c a t

/-- The column block of the weights that phase `a` of device `c` multiplies by. -/
def colOf (c : Dev nD) (a : Fin 8) : Fin 8 := ⟨(c.val + a.val + 1) % 8, Nat.mod_lt _ (by decide)⟩

theorem read_gSrc (c : Dev nD) (a : Fin 8) (t : Fin 2) (g : Vec F S4096x8192 .f32) (y : S4096x512.Idx) :
    (gSrc c a t).view.read (Elt F) g y = g (ValueIdx.ix2 (y 0) ⟨1024 * (colOf c a).val + 512 * t.val + (y 1).val, by
      have h1 : (y 1).val < 512 := (y 1).isLt
      have := (colOf c a).isLt; have := t.isLt; omega⟩) := by
  show g ((rG c a t).emb y) = _
  congr 1
  funext d
  apply Fin.ext
  rw [Rect.emb_apply]
  match d with
  | ⟨0, _⟩ =>
    show k0_off1 c (BitVec.ofNat 32 a.val) (BitVec.ofNat 32 (512 * t.val)) 0 + 1 * (y 0).val = (y 0).val
    rw [gSrc_off]; show 0 + 1 * (y 0).val = _; omega
  | ⟨1, _⟩ =>
    show k0_off1 c (BitVec.ofNat 32 a.val) (BitVec.ofNat 32 (512 * t.val)) 1 + 1 * (y 1).val = 1024 * ((c.val + a.val + 1) % 8) + 512 * t.val + (y 1).val
    rw [gSrc_off]; show 1024 * ((c.val + a.val + 1) % 8) + 512 * t.val + 1 * (y 1).val = _; omega

theorem land_w (c : Dev nD) (a : Fin 8) (t : Fin 2) (f : (cc0_scratch0 : Ref sig .tc).ty.Contents (Elt F)) (g : Vec F S4096x8192 .f32) :
    wM.view.readAt (Elt F) (rW t).toLoadRect ((wDst t).view.write (Elt F) f ((gSrc c a t).view.read (Elt F) g) Finset.univ)
      = wTile g (colOf c a) t := by
  refine (read_write_reshape (wM.view.slice (rW t)) _ f _).trans (funext fun x => ?_)
  rw [Shape.reshapeEquiv_symm, read_gSrc]
  rfl

/-! ## Stores -/

theorem zero2 : (![0, 0] : Fin 2 → Nat) = fun _ => 0 := funext fun a => by fin_cases a <;> rfl

theorem read_x (f : (cc0_stg0_0 : Ref sig .tc).ty.Contents (Elt F)) :
    xM.view.readAt (Elt F) (Rect.unit (s := S512x4096) ![0, 0] S512x4096.size inb_S512x4096_S512x4096_0_0).toLoadRect f = f :=
  Memref.readAt_unit_zero (Elt F) cc0_stg0_0 zero2 _ f
theorem read_y (f : (cc0_scratch1 : Ref sig .tc).ty.Contents (Elt F)) :
    yM.view.readAt (Elt F) (Rect.unit (s := S512x1024) ![0, 0] S512x1024.size inb_S512x1024_S512x1024_0_0).toLoadRect f = f :=
  Memref.readAt_unit_zero (Elt F) cc0_scratch1 zero2 _ f

theorem store_q (a : Fin 8) (f : (cc0_scratch2 : Ref sig .tc).ty.Contents (Elt F)) (v : Vec F S1x512x1024 .i8) :
    qM.view.readAt (Elt F) (rQ a).toLoadRect ((qM.access (rQ a)).write (Elt F) f v Finset.univ) = v :=
  View.read_write_univ (v := qM.view.slice (rQ a)) f v
theorem store_d (p : Fin 8) (f : (cc0_scratch3 : Ref sig .tc).ty.Contents (Elt F)) (v : Vec F S1x512x1024 .i8) :
    dM.view.readAt (Elt F) (rQ p).toLoadRect ((dM.access (rQ p)).write (Elt F) f v Finset.univ) = v :=
  View.read_write_univ (v := dM.view.slice (rQ p)) f v
theorem store_s (a : Fin 8) (f : (cc0_scratch4 : Ref sig .tc).ty.Contents (Elt F)) (v : Vec F S1x128 .f32) :
    sM.view.readAt (Elt F) (rS a).toLoadRect ((sM.access (rS a)).write (Elt F) f v Finset.univ) = v :=
  View.read_write_univ (v := sM.view.slice (rS a)) f v
theorem store_r (p : Fin 8) (f : (cc0_scratch5 : Ref sig .tc).ty.Contents (Elt F)) (v : Vec F S1x128 .f32) :
    rM.view.readAt (Elt F) (rS p).toLoadRect ((rM.access (rS p)).write (Elt F) f v Finset.univ) = v :=
  View.read_write_univ (v := rM.view.slice (rS p)) f v

theorem emb_unit {s : Shape} (off size : Fin s.rank → Nat) (inb : ∀ i, off i + size i ≤ s.size i)
    (y : (Rect.unit off size inb).shape.Idx) (d : Fin s.rank) : ((Rect.unit off size inb).emb y d).val = off d + (y d).val := by
  rw [Rect.emb_apply]; show off d + 1 * (y d).val = _; omega

/-- The two halves written, the block is their join. -/
theorem y_stores (f : (cc0_scratch1 : Ref sig .tc).ty.Contents (Elt F)) (v : Fin 2 → FVec F S512x512 .f32) :
    (yM.access (rY 1)).write (Elt F) ((yM.access (rY 0)).write (Elt F) f (v 0) Finset.univ) (v 1) Finset.univ = (yJoin v : FVec F S512x1024 .f32) := by
  funext i
  by_cases h : (i 1).val < 512
  · have h0 : i = (yM.access (rY 0)).emb (ValueIdx.ix2 (i 0) ⟨(i 1).val, h⟩) := by
      funext d; apply Fin.ext
      match d with
      | ⟨0, _⟩ => exact ((emb_unit _ _ _ _ 0).trans (Nat.zero_add _)).symm
      | ⟨1, _⟩ => exact ((emb_unit _ _ _ _ 1).trans (Nat.zero_add _)).symm
    rw [View.write_of_not_mem]
    · rw [h0, View.write_emb_of_mem _ _ (Finset.mem_univ _), ← h0]
      unfold yJoin; rw [dif_pos h]; rfl
    · intro hm
      obtain ⟨y, -, hy⟩ := Finset.mem_map.mp hm
      have : ((yM.access (rY 1)).emb y 1).val = 512 + (y 1).val := emb_unit _ _ _ _ 1
      rw [hy] at this; omega
  · have h1 : (i 1).val < 1024 := (i 1).isLt
    have h0 : i = (yM.access (rY 1)).emb (ValueIdx.ix2 (i 0) ⟨(i 1).val - 512, by omega⟩) := by
      funext d; apply Fin.ext
      match d with
      | ⟨0, _⟩ => exact ((emb_unit _ _ _ _ 0).trans (Nat.zero_add _)).symm
      | ⟨1, _⟩ => exact ((emb_unit _ _ _ _ 1).trans (show 512 + ((i 1).val - 512) = (i 1).val by omega)).symm
    rw [h0, View.write_emb_of_mem _ _ (Finset.mem_univ _), ← h0]
    unfold yJoin; rw [dif_neg h]; rfl

/-! ## Slots apart -/

theorem mem_rQ (p : Fin 8) (i : S8x512x1024.Idx) : i ∈ (rQ p).set ↔ (i 0).val = p.val := by
  rw [Rect.mem_set_unit]
  constructor
  · intro h; have := h 0; simp at this; omega
  · intro h d
    match d with
    | ⟨0, _⟩ => show p.val ≤ (i 0).val ∧ (i 0).val < p.val + 1; omega
    | ⟨1, _⟩ => show 0 ≤ (i 1).val ∧ (i 1).val < 0 + 512; have h1 : (i 1).val < 512 := (i 1).isLt; omega
    | ⟨2, _⟩ => show 0 ≤ (i 2).val ∧ (i 2).val < 0 + 1024; have h1 : (i 2).val < 1024 := (i 2).isLt; omega

theorem mem_rS (p : Fin 8) (i : S8x128.Idx) : i ∈ (rS p).set ↔ (i 0).val = p.val := by
  rw [Rect.mem_set_unit]
  constructor
  · intro h; have := h 0; simp at this; omega
  · intro h d
    match d with
    | ⟨0, _⟩ => show p.val ≤ (i 0).val ∧ (i 0).val < p.val + 1; omega
    | ⟨1, _⟩ => show 0 ≤ (i 1).val ∧ (i 1).val < 0 + 128; have h1 : (i 1).val < 128 := (i 1).isLt; omega

theorem mem_rW (t : Fin 2) (i : S2x4096x512.Idx) : i ∈ (rW t).set ↔ (i 0).val = t.val := by
  rw [Rect.mem_set_unit]
  constructor
  · intro h; have := h 0; simp at this; omega
  · intro h d
    match d with
    | ⟨0, _⟩ => show t.val ≤ (i 0).val ∧ (i 0).val < t.val + 1; omega
    | ⟨1, _⟩ => show 0 ≤ (i 1).val ∧ (i 1).val < 0 + 4096; have h1 : (i 1).val < 4096 := (i 1).isLt; omega
    | ⟨2, _⟩ => show 0 ≤ (i 2).val ∧ (i 2).val < 0 + 512; have h1 : (i 2).val < 512 := (i 2).isLt; omega

theorem disj_rQ (p p' : Fin 8) (h : p ≠ p') : Disjoint (rQ p).set (rQ p').set :=
  Finset.disjoint_left.mpr fun i hi hi' => h (Fin.ext (((mem_rQ p i).mp hi).symm.trans ((mem_rQ p' i).mp hi')))
theorem disj_rS (p p' : Fin 8) (h : p ≠ p') : Disjoint (rS p).set (rS p').set :=
  Finset.disjoint_left.mpr fun i hi hi' => h (Fin.ext (((mem_rS p i).mp hi).symm.trans ((mem_rS p' i).mp hi')))
theorem disj_rW (p p' : Fin 2) (h : p ≠ p') : Disjoint (rW p).set (rW p').set :=
  Finset.disjoint_left.mpr fun i hi hi' => h (Fin.ext (((mem_rW p i).mp hi).symm.trans ((mem_rW p' i).mp hi')))
theorem cover_rQ : Finset.univ.biUnion (fun p : Fin 8 => (rQ p).set) = Finset.univ :=
  Finset.eq_univ_of_forall fun i => Finset.mem_biUnion.mpr ⟨i 0, Finset.mem_univ _, (mem_rQ _ i).mpr rfl⟩
theorem cover_rS : Finset.univ.biUnion (fun p : Fin 8 => (rS p).set) = Finset.univ :=
  Finset.eq_univ_of_forall fun i => Finset.mem_biUnion.mpr ⟨i 0, Finset.mem_univ _, (mem_rS _ i).mpr rfl⟩
theorem cover_rW : Finset.univ.biUnion (fun p : Fin 2 => (rW p).set) = Finset.univ :=
  Finset.eq_univ_of_forall fun i => Finset.mem_biUnion.mpr ⟨i 0, Finset.mem_univ _, (mem_rW _ i).mpr rfl⟩

/-- The first element of a row is the element the result's block is scaled by. -/
theorem rE_sub (p : Fin 8) : (rE p).set ⊆ (rS p).set := fun i hi => by
  rw [mem_rS]; rw [Rect.mem_set_unit] at hi
  have := hi 0; simp at this; omega
theorem read_rE (p : Fin 8) (f : (cc0_scratch5 : Ref sig .tc).ty.Contents (Elt F)) :
    rM.view.readAt (Elt F) (rE p).toLoadRect f
      = fun i : S1x1.Idx => (rM.view.readAt (Elt F) (rS p).toLoadRect f : FVec F S1x128 .f32) (ValueIdx.ix2 (i 0) ⟨(i 1).val, by have h1 : (i 1).val < 1 := (i 1).isLt; omega⟩) := by
  funext i
  show f ((rE p).emb i) = f ((rS p).emb _)
  congr 1
  funext d; apply Fin.ext
  match d with
  | ⟨0, _⟩ => exact (emb_unit _ _ _ _ 0).trans (emb_unit _ _ _ _ 0).symm
  | ⟨1, _⟩ => exact (emb_unit _ _ _ _ 1).trans (emb_unit _ _ _ _ 1).symm

/-! ## The result, block by block -/

theorem store_o (j : Fin 8) (f : (cc0_stg1_0 : Ref sig .tc).ty.Contents (Elt F)) (v : Fin 8 → FVec F S512x1024 .f32)
    (h : ∀ i : Fin 8, i.val < j.val → oM.view.readAt (Elt F) (rO i).toLoadRect f = v i) :
    ∀ i : Fin 8, i.val < j.val + 1 → oM.view.readAt (Elt F) (rO i).toLoadRect ((oM.access (rO j)).write (Elt F) f (v j) Finset.univ) = v i := by
  intro i hi
  by_cases hij : i = j
  · subst hij
    exact View.read_write_univ (v := oM.view.slice (rO i)) f (v i)
  · have hlt : i.val < j.val := by
      have : i.val ≠ j.val := fun h' => hij (Fin.ext h')
      omega
    rw [← h i hlt]
    funext x
    have e (g : (cc0_stg1_0 : Ref sig .tc).ty.Contents (Elt F)) : oM.view.readAt (Elt F) (rO i).toLoadRect g x = g ((rO i).emb x) := rfl
    rw [e, e, View.write_of_not_mem]
    intro hm
    obtain ⟨y, -, hy⟩ := Finset.mem_map.mp hm
    have h1 : ((oM.access (rO j)).emb y 0).val = 512 * j.val + (y 0).val := emb_unit _ _ _ _ 0
    have h2 : ((rO i).emb x 0).val = 512 * i.val + (x 0).val := emb_unit _ _ _ _ 0
    rw [hy] at h1
    have h3 : (y 0).val < 512 := (y 0).isLt
    have h4 : (x 0).val < 512 := (x 0).isLt
    have h5 : 512 * j.val + (y 0).val = 512 * i.val + (x 0).val := h1.symm.trans h2
    omega

/-- The whole result from its blocks. -/
def oJoin (v : Fin 8 → FVec F S512x1024 .f32) : FVec F S4096x1024 .f32 := fun i =>
  v ⟨(i 0).val / 512, by have h1 : (i 0).val < 4096 := (i 0).isLt; omega⟩ (ValueIdx.ix2 ⟨(i 0).val % 512, Nat.mod_lt _ (by decide)⟩ (i 1))

theorem o_all (f : (cc0_stg1_0 : Ref sig .tc).ty.Contents (Elt F)) (v : Fin 8 → FVec F S512x1024 .f32)
    (h : ∀ i : Fin 8, i.val < 8 → oM.view.readAt (Elt F) (rO i).toLoadRect f = v i) : f = oJoin v := by
  funext i
  have h1 : (i 0).val < 4096 := (i 0).isLt
  unfold oJoin
  rw [← h _ (by show (i 0).val / 512 < 8; omega)]
  show f i = f ((rO _).emb _)
  congr 1
  funext d; apply Fin.ext
  match d with
  | ⟨0, _⟩ => exact ((emb_unit _ _ _ _ 0).trans (show 512 * ((i 0).val / 512) + (i 0).val % 512 = (i 0).val by omega)).symm
  | ⟨1, _⟩ => exact ((emb_unit _ _ _ _ 1).trans (Nat.zero_add _)).symm

end Cert.KernelIdeal.Pf
-- ==== Proof.Proto.lean ====
/-
The exchange between the devices: who signals, sends and waits for what, what each landing delivers, and in which order
the waits may come.
-/
module

public import proofs.«01_k».proof.Proof.Views
public import Idealize.ShloMosaic.Lib.Pipeline.Launch
public import Idealize.ShloMosaic.Lib.Transfers
public import Idealize.ShloMosaic.Lib.Ring

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state -/

/-- The rounds of the exchange's cells, a duty named by a device; beside them the counters of the local copies. -/
abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans (uEmb (nD := nD) (τ := τ) (sig := sig) (Ix := Unit) (Val := Elt F) (Name := ℕ) (U := UU) (Lvl := ℕ)).toEmb
instance ER_landsIn : (ER (F := F)).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch. -/
def s₀ : MemSt nD τ sig (Elt F) := ⟨m, fun _ => 0, ρ⟩

/-! ## The devices around -/

set_option backward.proofsInPublic true in
/-- The device `k` further on. -/
def peer (c : Dev nD) (k : ℕ) : Dev nD := ⟨(c.val + k) % 8, Nat.mod_lt _ (by decide)⟩
set_option backward.proofsInPublic true in
/-- The device `k` back. -/
def back (c : Dev nD) (k : ℕ) : Dev nD := ⟨(c.val + 8 - k) % 8, Nat.mod_lt _ (by decide)⟩

/-! ## The cells -/

/-- A device's cells: its barrier; or the semaphores of the blocks sent (0), the blocks received (1), the scales sent (2)
    and the scales received (3), eight of each. -/
abbrev KC : Type := Option (Fin 4 × Fin 8)

set_option backward.proofsInPublic true in
def dmaAt (k : Fin 4) (a : Fin 8) : DmaSem sig := ⟨4 + 8 * k.val + a.val, by have := k.isLt; have := a.isLt; show _ < 36; omega⟩
def csem : KC → SemLoc sig
  | none => .reg barS
  | some (k, a) => .dma (dmaAt k a)
def kindOf : SemLoc sig → Option KC
  | .reg _ => some none
  | .dma s => if h : 4 ≤ s.val then some (some (⟨(s.val - 4) / 8, by have : s.val < 36 := s.isLt; omega⟩, ⟨(s.val - 4) % 8, Nat.mod_lt _ (by decide)⟩)) else none

theorem dsSem_eq (a : Fin 8) : dsSem a = dmaAt 0 a := by revert a; decide
theorem drSem_eq (a : Fin 8) : drSem a = dmaAt 1 a := by revert a; decide
theorem ssSem_eq (a : Fin 8) : ssSem a = dmaAt 2 a := by revert a; decide
theorem srSem_eq (a : Fin 8) : srSem a = dmaAt 3 a := by revert a; decide

theorem kindOf_csem (k : KC) : kindOf (csem k) = some k := by
  rcases k with _ | ⟨k, a⟩
  · rfl
  · have h1 := k.isLt; have h2 := a.isLt
    show (if h : 4 ≤ 4 + 8 * k.val + a.val then some (some (_, _)) else none) = _
    rw [dif_pos (by omega)]
    refine congrArg (fun p => some (some p)) (Prod.ext (Fin.ext ?_) (Fin.ext ?_))
    · show (4 + 8 * k.val + a.val - 4) / 8 = k.val; omega
    · show (4 + 8 * k.val + a.val - 4) % 8 = a.val; omega

abbrev kcell (c : Dev nD) (k : KC) : GSem nD τ sig := ((c : Thread nD τ), csem k)

theorem csem_inj {k k' : KC} (h : csem k = csem k') : k = k' := by
  have := congrArg kindOf h
  rw [kindOf_csem, kindOf_csem] at this
  exact Option.some.inj this
theorem kcell_inj {c c' : Dev nD} {k k' : KC} (h : kcell c k = kcell c' k') : c = c' ∧ k = k' :=
  ⟨congrArg (fun g : GSem nD τ sig => g.1.1) h, csem_inj (congrArg Prod.snd h)⟩

/-! ## Contents -/

/-- The device's rows of `x`, and its copy of the weights. -/
def xs (c : Dev nD) : FVec F S512x4096 .f32 := (win0_0.blk (0 : Fin 1)).view.read (Elt F) (m ((c : Thread nD τ).loc main_arg0))
def gs (c : Dev nD) : Vec F S4096x8192 .f32 := m ((c : Thread nD τ).loc main_arg1)
/-- Device `d`'s rows by column block `b` of the weights; quantised; its scale. -/
def yOf (d : Dev nD) (b : Fin 8) : FVec F S512x1024 .f32 := yJoin fun t => tileVal (xs m d) (wTile (gs m d) b t)
def qOf (d : Dev nD) (b : Fin 8) : Vec F S1x512x1024 .i8 := quantVal (yOf m d b)
def sOf (d : Dev nD) (b : Fin 8) : FVec F S1x128 .f32 := scaleVal (yOf m d b)
/-- Block `j` of device `c`'s result: what device `j` sent. -/
def oOf (c : Dev nD) (j : Fin 8) : FVec F S512x1024 .f32 :=
  outVal (qOf m j c) (fun i : S1x1.Idx => sOf m j c (ValueIdx.ix2 (i 0) ⟨(i 1).val, by have h1 : (i 1).val < 1 := (i 1).isLt; omega⟩))
def outAt (c : Dev nD) : FVec F S4096x1024 .f32 := oJoin (oOf m c)

/-! ## The slots held -/

def qAny (c : Dev nD) (a : Fin 8) : sProp 𝕄 := iprop(∃ f : (cc0_scratch2 : Ref sig .tc).ty.Contents (Elt F), (c : Thread nD τ).loc cc0_scratch2 ↦[(rQ a).set]{fullShare} f)
def sAny (c : Dev nD) (a : Fin 8) : sProp 𝕄 := iprop(∃ f : (cc0_scratch4 : Ref sig .tc).ty.Contents (Elt F), (c : Thread nD τ).loc cc0_scratch4 ↦[(rS a).set]{fullShare} f)
def dAny (c : Dev nD) (p : Fin 8) : sProp 𝕄 := iprop(∃ f : (cc0_scratch3 : Ref sig .tc).ty.Contents (Elt F), (c : Thread nD τ).loc cc0_scratch3 ↦[(rQ p).set]{fullShare} f)
def rAny (c : Dev nD) (p : Fin 8) : sProp 𝕄 := iprop(∃ f : (cc0_scratch5 : Ref sig .tc).ty.Contents (Elt F), (c : Thread nD τ).loc cc0_scratch5 ↦[(rS p).set]{fullShare} f)
def qPts (c : Dev nD) (a : Fin 8) (v : Vec F S1x512x1024 .i8) : sProp 𝕄 :=
  iprop(∃ f : (cc0_scratch2 : Ref sig .tc).ty.Contents (Elt F), ⌜qM.view.readAt (Elt F) (rQ a).toLoadRect f = v⌝ ∗ (c : Thread nD τ).loc cc0_scratch2 ↦[(rQ a).set]{fullShare} f)
def sPts (c : Dev nD) (a : Fin 8) (v : FVec F S1x128 .f32) : sProp 𝕄 :=
  iprop(∃ f : (cc0_scratch4 : Ref sig .tc).ty.Contents (Elt F), ⌜sM.view.readAt (Elt F) (rS a).toLoadRect f = v⌝ ∗ (c : Thread nD τ).loc cc0_scratch4 ↦[(rS a).set]{fullShare} f)
def dPts (c : Dev nD) (p : Fin 8) (v : Vec F S1x512x1024 .i8) : sProp 𝕄 :=
  iprop(∃ f : (cc0_scratch3 : Ref sig .tc).ty.Contents (Elt F), ⌜dM.view.readAt (Elt F) (rQ p).toLoadRect f = v⌝ ∗ (c : Thread nD τ).loc cc0_scratch3 ↦[(rQ p).set]{fullShare} f)
def rPts (c : Dev nD) (p : Fin 8) (v : FVec F S1x128 .f32) : sProp 𝕄 :=
  iprop(∃ f : (cc0_scratch5 : Ref sig .tc).ty.Contents (Elt F), ⌜rM.view.readAt (Elt F) (rS p).toLoadRect f = v⌝ ∗ (c : Thread nD τ).loc cc0_scratch5 ↦[(rS p).set]{fullShare} f)

instance qAny_storable (c : Dev nD) (a : Fin 8) : BI.Storable (upEmb : UEmb _ 𝕄) (qAny (F := F) c a) := by unfold qAny; infer_instance
instance sAny_storable (c : Dev nD) (a : Fin 8) : BI.Storable (upEmb : UEmb _ 𝕄) (sAny (F := F) c a) := by unfold sAny; infer_instance
instance dAny_storable (c : Dev nD) (a : Fin 8) : BI.Storable (upEmb : UEmb _ 𝕄) (dAny (F := F) c a) := by unfold dAny; infer_instance
instance rAny_storable (c : Dev nD) (a : Fin 8) : BI.Storable (upEmb : UEmb _ 𝕄) (rAny (F := F) c a) := by unfold rAny; infer_instance
instance dPts_storable (c : Dev nD) (a : Fin 8) (v) : BI.Storable (upEmb : UEmb _ 𝕄) (dPts (F := F) c a v) := by unfold dPts; infer_instance
instance rPts_storable (c : Dev nD) (a : Fin 8) (v) : BI.Storable (upEmb : UEmb _ 𝕄) (rPts (F := F) c a v) := by unfold rPts; infer_instance

/-! ## The schedule -/

/-- The credit of a block's copy, and of a scale's. -/
def Nd : ℕ := (dDst 0).view.dmaCredit
def Ns : ℕ := (rDst 0).view.dmaCredit
theorem Nd_pos : 0 < Nd := View.dmaCredit_pos _ (by decide)
theorem Ns_pos : 0 < Ns := View.dmaCredit_pos _ (by decide)

/-- The duties of a cell of device `c`: its barrier is signalled by every other device; a send semaphore by the one send
    of its phase (none in phase 7); a receive semaphore by the one send of its device (none from `c` itself). -/
def dutiesAt (c : Dev nD) : KC → Finset (Fin 8)
  | none => Finset.univ.erase c
  | some (k, a) => if k = 0 ∨ k = 2 then (if a = 7 then ∅ else {0}) else (if a = c then ∅ else {0})
def amountAt : KC → ℕ
  | none => 1
  | some (k, _) => if k = 0 ∨ k = 1 then Nd else Ns
/-- What each delivers: a signal from `d`, `d`'s slot and row for `c`'s block; a landing, the block and the scale sent; a
    send read out, its source. -/
def payAt (c : Dev nD) : KC → Fin 8 → sProp 𝕄
  | none, d => iprop(dAny d c ∗ rAny d c)
  | some (0, a), _ => qAny c a
  | some (1, p), _ => dPts c p (qOf m p c)
  | some (2, a), _ => sAny c a
  | some (3, p), _ => rPts c p (sOf m p c)

instance payAt_storable (c : Dev nD) (k : KC) (d : Fin 8) : BI.Storable (upEmb : UEmb _ 𝕄) (payAt m c k d) := by
  rcases k with _ | ⟨k, a⟩
  · unfold payAt; infer_instance
  · fin_cases k <;> (dsimp only [payAt]; infer_instance)

def Rd : Rounds.Schedule (GSem nD τ sig) (Fin 8) 𝕄 where
  duties g r := if r = 0 ∧ g.1.2 = .tc then ((kindOf g.2).map (dutiesAt g.1.1)).getD ∅ else ∅
  unitless _ := False
  amount g _ _ := ((kindOf g.2).map amountAt).getD 1
  payload g _ d := ((kindOf g.2).map fun k => payAt m g.1.1 k d).getD iprop(emp)
  amount_pos g _ _ _ := by
    rcases kindOf g.2 with _ | _ | ⟨k, a⟩
    · exact Nat.one_pos
    · exact Nat.one_pos
    · show 0 < amountAt (some (k, a))
      unfold amountAt; dsimp only; split
      · exact Nd_pos
      · exact Ns_pos

instance Rd_payload_storable (g : GSem nD τ sig) (r : ℕ) (d : Fin 8) : BI.Storable (upEmb : UEmb _ 𝕄) ((Rd (F := F) m).payload g r d) := by
  show BI.Storable upEmb (((kindOf g.2).map fun k => payAt m g.1.1 k d).getD iprop(emp))
  rcases kindOf g.2 with _ | k
  · show BI.Storable upEmb iprop(emp); infer_instance
  · show BI.Storable upEmb (payAt m g.1.1 k d); infer_instance

theorem duties_eq (c : Dev nD) (k : KC) : (Rd (F := F) m).duties (kcell c k) 0 = dutiesAt c k := by
  dsimp only [Rd]; rw [if_pos ⟨rfl, rfl⟩, kindOf_csem]; rfl
theorem duties_later (g : GSem nD τ sig) : ∀ r, 1 ≤ r → (Rd (F := F) m).duties g r = ∅ :=
  fun r hr => by dsimp only [Rd]; rw [if_neg fun h => by omega]
theorem amount_eq (c : Dev nD) (k : KC) (d : Fin 8) : (Rd (F := F) m).amount (kcell c k) 0 d = amountAt k := by
  dsimp only [Rd]; rw [kindOf_csem]; rfl
theorem payload_eq (c : Dev nD) (k : KC) (d : Fin 8) : (Rd (F := F) m).payload (kcell c k) 0 d = payAt m c k d := by
  dsimp only [Rd]; rw [kindOf_csem]; rfl
theorem expect_eq (c : Dev nD) (k : KC) : (Rd (F := F) m).expect (kcell c k) 0 = (dutiesAt c k).card * amountAt k := by
  unfold Schedule.expect Schedule.amountOf
  rw [duties_eq, Finset.sum_congr rfl fun d _ => amount_eq m c k d, Finset.sum_const, smul_eq_mul]
theorem rest_eq (c : Dev nD) (k : KC) :
    bigSep ((Rd (F := F) m).duties (kcell c k) 0 \ ∅) (fun d => (Rd (F := F) m).payload (kcell c k) 0 d) = bigSep (dutiesAt c k) (payAt m c k) := by
  rw [Finset.sdiff_empty, duties_eq]
  exact bigSep_congr fun d _ => payload_eq m c k d

/-! ## What each device owes, and the levels -/

/-- The sends still owed when `j` phases are left, and with them the signals still owed when `j` are left. -/
def oweS (c : Dev nD) : ℕ → CellTallies nD τ sig Unit
  | 0 => 0
  | j + 1 => (oweS c j + tallyAt (kcell (peer c (7 - j)) (some (3, c))) () Ns) + tallyAt (kcell (peer c (7 - j)) (some (1, c))) () Nd
def oweB (c : Dev nD) : ℕ → CellTallies nD τ sig Unit
  | 0 => oweS c 7
  | j + 1 => oweB c j + tallyAt (kcell (peer c (7 - j)) none) () 1

def L (g : GSem nD τ sig) : Finset Unit := if g.1.2 = .tc then {()} else ∅
/-- A barrier at 1, a receive semaphore at 2, every other at 0. -/
def lvK : Option KC → ℕ
  | some none => 1
  | some (some (k, _)) => if k = 1 ∨ k = 3 then 2 else 0
  | none => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : KC) (u : Unit) : lv (kcell c k) u = lvK (some k) := by unfold lv; rw [kindOf_csem]

theorem tally_pos {O : CellTallies nD τ sig Unit} {g g' : GSem nD τ sig} {n : ℕ} {u : Unit} (h : 0 < (O + tallyAt g' () n) g u) : 0 < O g u ∨ g = g' := by
  rw [Pi.add_apply, Finsupp.add_apply, tallyAt_apply] at h
  by_cases hg : g = g'
  · exact .inr hg
  · rw [if_neg fun h' => hg h'.1] at h; exact .inl h

theorem oweS_pos (c : Dev nD) {g : GSem nD τ sig} {u : Unit} : ∀ j, 0 < oweS c j g u → ∃ (p : Dev nD) (k : Fin 4), (k = 1 ∨ k = 3) ∧ g = kcell p (some (k, c))
  | 0, h => absurd h (Nat.lt_irrefl 0)
  | j + 1, h => by
    rcases tally_pos h with h | h
    · rcases tally_pos h with h | h
      · exact oweS_pos c j h
      · exact ⟨_, 3, .inr rfl, h⟩
    · exact ⟨_, 1, .inl rfl, h⟩
theorem oweB_pos (c : Dev nD) {g : GSem nD τ sig} {u : Unit} : ∀ j, 0 < oweB c j g u →
    (∃ (p : Dev nD) (k : Fin 4), (k = 1 ∨ k = 3) ∧ g = kcell p (some (k, c))) ∨ ∃ p : Dev nD, g = kcell p none
  | 0, h => .inl (oweS_pos c 7 h)
  | j + 1, h => by
    rcases tally_pos h with h | h
    · exact oweB_pos c j h
    · exact .inr ⟨_, h⟩

/-- A wait at level 0 (a local copy's), whatever is owed. -/
theorem mayWait_local (c : Dev nD) (q : DmaSem sig) (hq : kindOf (.dma q) = none) (O : CellTallies nD τ sig Unit)
    (hO : (∃ j, O = oweB c j) ∨ ∃ j, O = oweS c j) : (levAts L lv : sProp 𝕄) ⊢ MayWait (c : Thread nD τ) (.dma q) () O := by
  have hp : ∀ {g : GSem nD τ sig} {u : Unit}, 0 < O g u →
      (∃ (p : Dev nD) (k : Fin 4), (k = 1 ∨ k = 3) ∧ g = kcell p (some (k, c))) ∨ ∃ p : Dev nD, g = kcell p none := by
    rcases hO with ⟨j, rfl⟩ | ⟨j, rfl⟩
    · exact fun h => oweB_pos c j h
    · exact fun h => .inl (oweS_pos c j h)
  refine MayOwe.of_cut (L := L) (lev := lv) 0 (fun p h => by rw [Finset.mem_singleton.mp h, L_tc]; exact Finset.mem_singleton_self _)
    (fun g u hg => by rcases hp hg with ⟨p, k, -, rfl⟩ | ⟨p, rfl⟩ <;> (rw [L_tc]; exact Finset.mem_singleton_self _))
    (fun p h => by rw [Finset.mem_singleton.mp h]; show lvK (kindOf (.dma q)) ≤ 0; rw [hq]; exact Nat.le_refl 0)
    (fun g u hg => by
      rcases hp hg with ⟨p, k, hk, rfl⟩ | ⟨p, rfl⟩
      · rw [lv_kcell]; show 0 < if k = 1 ∨ k = 3 then 2 else 0; rw [if_pos hk]; decide
      · rw [lv_kcell]; decide)

/-- The wait on the barrier, the sends owed. -/
theorem mayWait_bar (c : Dev nD) (j : ℕ) : (levAts L lv : sProp 𝕄) ⊢ MayWait (c : Thread nD τ) (.reg barS) () (oweS c j) :=
  MayOwe.of_cut (L := L) (lev := lv) 1 (fun p h => by rw [Finset.mem_singleton.mp h, L_tc]; exact Finset.mem_singleton_self _)
    (fun g u hg => by rcases oweS_pos c j hg with ⟨p, k, -, rfl⟩; rw [L_tc]; exact Finset.mem_singleton_self _)
    (fun p h => by rw [Finset.mem_singleton.mp h]; exact Nat.le_refl 1)
    (fun g u hg => by
      rcases oweS_pos c j hg with ⟨p, k, hk, rfl⟩
      rw [lv_kcell]; show 1 < if k = 1 ∨ k = 3 then 2 else 0; rw [if_pos hk]; decide)

end Cert.KernelIdeal.Pf
-- ==== Proof.StepsWp.lean ====
/-
Each step of the body, executed once at a symbolic index: what it takes and what it leaves.
-/
module

public import proofs.«01_k».proof.Proof.Proto

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none
/-- The weakest precondition of a piece of device `c`'s body. -/
abbrev WP (c : Dev nD) {α : Type} (p : PR F α) (Q : α → sProp 𝕄) : sProp 𝕄 :=
  wp frame (wpE (defs₀ (F := F)) 𝒱₀ (c : Thread nD τ) none) Set.univ p Q

/-! ## What every step may use -/

/-- Every cell's invariant and that it has reached round 0; the levels. -/
def pers (K : Dev nD × KC → ℕ) : sProp 𝕄 :=
  iprop(((bigSep Finset.univ fun ck : Dev nD × KC => cellInv ER (Rd m) (K ck) (kcell ck.1 ck.2))
    ∗ bigSep Finset.univ fun ck : Dev nD × KC => reached ER (kcell ck.1 ck.2) 0) ∗ levAts L lv)
instance pers_persistent (K : Dev nD × KC → ℕ) : BI.Persistent (pers m K) := by unfold pers; infer_instance
theorem pers_inv (K : Dev nD × KC → ℕ) (c : Dev nD) (k : KC) : pers m K ⊢ cellInv ER (Rd m) (K (c, k)) (kcell c k) := by
  unfold pers
  iintro ⟨⟨H, -⟩, -⟩
  iapply ((bigSep_elim (Φ := fun ck : Dev nD × KC => (cellInv ER (Rd m) (K ck) (kcell ck.1 ck.2) : sProp 𝕄)) (Finset.mem_univ (c, k)) : _ ⊢ _)) $$ H
theorem pers_reached (K : Dev nD × KC → ℕ) (c : Dev nD) (k : KC) : pers m K ⊢ reached ER (kcell c k) 0 := by
  unfold pers
  iintro ⟨⟨-, H⟩, -⟩
  iapply ((bigSep_elim (Φ := fun ck : Dev nD × KC => (reached ER (kcell ck.1 ck.2) 0 : sProp 𝕄)) (Finset.mem_univ (c, k)) : _ ⊢ _)) $$ H
theorem pers_lev (K : Dev nD × KC → ℕ) : pers m K ⊢ levAts L lv := by
  unfold pers; iintro ⟨-, H⟩; iexact H

/-- What a device owes, whatever it has waited for. -/
def owesX (c : Dev nD) (O : CellTallies nD τ sig Unit) : sProp 𝕄 := iprop(∃ W : Waits sig Unit, owes (c : Thread nD τ) O W)

/-! ## The tiles of the weights -/

/-- The share of the weights that slot `t`'s copies read through. -/
def shareOf (t : Fin 2) : PosShare TreeShare := if t = 0 then fullShare.left else fullShare.right
def gHeld (c : Dev nD) (t : Fin 2) : sProp 𝕄 := iprop((c : Thread nD τ).loc main_arg1 ↦{shareOf t} gs m c)
def wFree (c : Dev nD) (t : Fin 2) : sProp 𝕄 :=
  iprop(∃ f : (cc0_scratch0 : Ref sig .tc).ty.Contents (Elt F), (c : Thread nD τ).loc cc0_scratch0 ↦[(rW t).set]{fullShare} f)
def wHas (c : Dev nD) (t : Fin 2) (v : Vec F S1x4096x512 .f32) : sProp 𝕄 :=
  iprop(∃ f : (cc0_scratch0 : Ref sig .tc).ty.Contents (Elt F), ⌜wM.view.readAt (Elt F) (rW t).toLoadRect f = v⌝ ∗ (c : Thread nD τ).loc cc0_scratch0 ↦[(rW t).set]{fullShare} f)
def wZero (c : Dev nD) (t : Fin 2) : sProp 𝕄 := semVal ((c : Thread nD τ), .dma (wSem t)) 0
def Nw : ℕ := (wDst 0).view.dmaCredit
theorem Nw_pos : 0 < Nw := View.dmaCredit_pos _ (by decide)
theorem Nw_eq (t : Fin 2) : (wDst t).view.dmaCredit = Nw := rfl
/-- Slot `t`'s copy of phase `a` on its way, and the part of the weights' share it does not read. -/
def flight (c : Dev nD) (a : Fin 8) (t : Fin 2) : sProp 𝕄 :=
  iprop(Transfers.Flight EC (c : Thread nD τ) (.dma (wSem t)) () Nw
      iprop(wHas c t (wTile (gs m c) (colOf c a) t) ∗ ((c : Thread nD τ).loc main_arg1 ↦[(rG c a t).set]{shareOf t} gs m c))
    ∗ ((c : Thread nD τ).loc main_arg1 ↦[Finset.univ \ (rG c a t).set]{shareOf t} gs m c))

theorem start_wp (c : Dev nD) (a : Fin 8) (t : Fin 2) (Q : PUnit → sProp 𝕄) :
    iprop(wFree c t ∗ gHeld m c t ∗ wZero c t ∗ (flight m c a t -∗ Q ⟨⟩)) ⊢ WP c (start c a t) Q := by
  unfold start startP
  simp only [Prog.lift]
  unfold wFree gHeld wZero
  iintro ⟨⟨%f, Hw⟩, Hg, Hz, Hk⟩
  ihave Hg2 := ((pointsTo_split_subset (Finset.subset_univ (rG c a t).set)).1) $$ Hg
  icases Hg2 with ⟨Hsrc, Hrest⟩
  iapply (Transfers.wp_dmaLocal EC 𝒱₀ (c : Thread nD τ) none (src := gSrc c a t) (dst := wDst t) (sm := .dma (wSem t)) (Sd := (rW t).set) (fd := f) (fs := gs m c)
    () Nw (Nw_eq t) Nw_pos (by rw [set_wDst])) $$ [Hsrc Hw Hz]
  · isplitl [Hsrc]; · rw [set_gSrc]; iexact Hsrc
    isplitl [Hw] <;> iassumption
  iintro Hfl
  rw [wp_ret]; imodintro
  iapply Hk
  unfold flight
  isplitl [Hfl]
  · iapply (Transfers.Flight_mono EC (c : Thread nD τ) ?_) $$ Hfl
    unfold wHas
    iintro ⟨Hd, Hs⟩
    isplitl [Hd]
    · iexists _
      isplitr; swap; · iexact Hd
      ipureintro
      exact land_w c a t f (gs m c)
    · rw [set_gSrc]; iexact Hs
  · iexact Hrest

def yPts (c : Dev nD) (f : FVec F S512x1024 .f32) : sProp 𝕄 := iprop((c : Thread nD τ).loc cc0_scratch1 ↦{fullShare} f)
def xPts (c : Dev nD) : sProp 𝕄 := iprop((c : Thread nD τ).loc cc0_stg0_0 ↦{fullShare} xs m c)
/-- The block after tile `t` is stored over `f`. -/
def yPut (t : Fin 2) (f : FVec F S512x1024 .f32) (v : FVec F S512x512 .f32) : FVec F S512x1024 .f32 := (yM.access (rY t)).write (Elt F) f v Finset.univ
theorem yPut_both (f : FVec F S512x1024 .f32) (v : Fin 2 → FVec F S512x512 .f32) : yPut 1 (yPut 0 f (v 0)) (v 1) = yJoin v := y_stores f v
theorem yPut_yOf (d : Dev nD) (b : Fin 8) (f : FVec F S512x1024 .f32) :
    yPut 1 (yPut 0 f (tileVal (xs m d) (wTile (gs m d) b 0))) (tileVal (xs m d) (wTile (gs m d) b 1)) = yOf m d b :=
  yPut_both f fun t => tileVal (xs m d) (wTile (gs m d) b t)

theorem kindOf_wSem (t : Fin 2) : kindOf (.dma (wSem t)) = none := by revert t; decide

theorem tile_wp (c : Dev nD) (a : Fin 8) (t : Fin 2) (f : FVec F S512x1024 .f32) (O : CellTallies nD τ sig Unit)
    (hO : (∃ j, O = oweB c j) ∨ ∃ j, O = oweS c j) (Q : PUnit → sProp 𝕄) :
    iprop(levAts L lv ∗ flight m c a t ∗ owesX c O ∗ xPts m c ∗ yPts c f
        ∗ ((wFree c t ∗ gHeld m c t ∗ wZero c t ∗ owesX c O ∗ xPts m c ∗ yPts c (yPut t f (tileVal (xs m c) (wTile (gs m c) (colOf c a) t)))) -∗ Q ⟨⟩))
      ⊢ WP c (tile c a t) Q := by
  unfold tile tileP
  simp only [Prog.lift, Prog.bind_op, Prog.bind_ret]
  unfold flight owesX xPts yPts
  iintro ⟨#Hlev, ⟨Hfl, Hrest⟩, ⟨%W, HO⟩, Hx, Hy, Hk⟩
  iapply (Transfers.wp_waitLocalO EC 𝒱₀ (c : Thread nD τ) none () (Nw_eq t)) $$ [Hfl HO]
  · isplitl [Hfl]; · iexact Hfl
    isplitl [HO]; · iexact HO
    iapply (mayWait_local c (wSem t) (kindOf_wSem t) O hO); iexact Hlev
  iintro ⟨⟨Hw, Hsrc⟩, Hz, HO⟩
  unfold wHas
  icases Hw with ⟨%fw, %hfw, Hw⟩
  iapply (wp_load 𝒱₀ (c : Thread nD τ) none Set.univ (m := xM) (Finset.subset_univ _)) $$ Hx; iintro Hx
  rw [read_x]
  iapply (wp_load 𝒱₀ (c : Thread nD τ) none Set.univ (m := wM) (r := (rW t).toLoadRect) (by rw [on_whole (sp := .vmem)])) $$ Hw; iintro Hw
  rw [hfw]
  iapply (wp_load 𝒱₀ (c : Thread nD τ) none Set.univ (m := yM) (Finset.subset_univ _)) $$ Hy; iintro Hy
  iapply (wp_store 𝒱₀ (c : Thread nD τ) none Set.univ (m := yM) (r := rY t) (Mk := Finset.univ) (Finset.subset_univ _)) $$ Hy; iintro Hy
  rw [wp_ret]; imodintro
  iapply Hk
  unfold wFree gHeld wZero
  isplitl [Hw]; · iexists fw; iexact Hw
  isplitl [Hsrc Hrest]
  · iapply ((pointsTo_split_subset (Finset.subset_univ (rG c a t).set)).2)
    isplitl [Hsrc] <;> iassumption
  isplitl [Hz]; · iexact Hz
  isplitl [HO]; · iexists _; iexact HO
  isplitl [Hx]; · iexact Hx
  iexact Hy

/-! ## The block quantised and sent -/

theorem quant_wp (c : Dev nD) (a : Fin 8) (f : FVec F S512x1024 .f32) (Q : FVec F S512x1024 .f32 → sProp 𝕄) :
    iprop(yPts c f ∗ qAny c a ∗ sAny c a ∗ ((yPts c f ∗ qPts c a (quantVal f) ∗ sPts c a (scaleVal f)) -∗ Q f)) ⊢ WP c (quantP a) Q := by
  unfold quantP
  simp only [Prog.lift, Prog.bind_op, Prog.bind_ret, Prog.pure_eq_ret]
  unfold yPts qAny sAny
  iintro ⟨Hy, ⟨%fq, Hq⟩, ⟨%fs, Hs⟩, Hk⟩
  iapply (wp_load 𝒱₀ (c : Thread nD τ) none Set.univ (m := yM) (Finset.subset_univ _)) $$ Hy; iintro Hy
  rw [read_y]
  iapply (wp_load 𝒱₀ (c : Thread nD τ) none Set.univ (m := qM) (r := (rQ a).toLoadRect) (by rw [on_whole (sp := .vmem)])) $$ Hq; iintro Hq
  iapply (wp_store 𝒱₀ (c : Thread nD τ) none Set.univ (m := qM) (r := rQ a) (Mk := Finset.univ) (by rw [View.setOn_univ, View.set_slice_whole])) $$ Hq; iintro Hq
  iapply (wp_load 𝒱₀ (c : Thread nD τ) none Set.univ (m := sM) (r := (rS a).toLoadRect) (by rw [on_whole (sp := .vmem)])) $$ Hs; iintro Hs
  iapply (wp_store 𝒱₀ (c : Thread nD τ) none Set.univ (m := sM) (r := rS a) (Mk := Finset.univ) (by rw [View.setOn_univ, View.set_slice_whole])) $$ Hs; iintro Hs
  rw [wp_ret]; imodintro
  iapply Hk
  unfold qPts sPts
  isplitl [Hy]; · iexact Hy
  isplitl [Hq]
  · iexists _
    isplitr; swap; · iexact Hq
    ipureintro; exact store_q a _ _
  · iexists _
    isplitr; swap; · iexact Hs
    ipureintro; exact store_s a _ _

theorem dsCell (c : Dev nD) (a : Fin 8) : (((c : Thread nD τ), .dma (dsSem a)) : GSem nD τ sig) = kcell c (some (0, a)) := by rw [dsSem_eq]; rfl
theorem drCell (c : Dev nD) (a : Fin 8) : (((c : Thread nD τ), .dma (drSem a)) : GSem nD τ sig) = kcell c (some (1, a)) := by rw [drSem_eq]; rfl
theorem ssCell (c : Dev nD) (a : Fin 8) : (((c : Thread nD τ), .dma (ssSem a)) : GSem nD τ sig) = kcell c (some (2, a)) := by rw [ssSem_eq]; rfl
theorem srCell (c : Dev nD) (a : Fin 8) : (((c : Thread nD τ), .dma (srSem a)) : GSem nD τ sig) = kcell c (some (3, a)) := by rw [srSem_eq]; rfl

theorem dutiesAt_send (c : Dev nD) {k : Fin 4} (hk : k = 0 ∨ k = 2) {a : Fin 8} (ha : a ≠ 7) : dutiesAt c (some (k, a)) = {0} := by
  unfold dutiesAt; dsimp only; rw [if_pos hk, if_neg ha]
theorem dutiesAt_recv (c : Dev nD) {k : Fin 4} (hk : k = 1 ∨ k = 3) {p : Fin 8} (hp : p ≠ c) : dutiesAt c (some (k, p)) = {0} := by
  unfold dutiesAt; dsimp only; rw [if_neg (by rcases hk with rfl | rfl <;> decide), if_neg hp]

theorem Nd_eq (p : Fin 8) : (dDst p).view.dmaCredit = Nd := rfl
theorem Ns_eq (p : Fin 8) : (rDst p).view.dmaCredit = Ns := rfl
theorem Nd_eq' (a : Fin 8) : (qSrc a).view.dmaCredit = Nd := rfl
theorem Ns_eq' (a : Fin 8) : (sSrc a).view.dmaCredit = Ns := rfl

/-- The tokens phase `a`'s two sends pay with. -/
def sendToks (c : Dev nD) (a : Fin 8) : sProp 𝕄 :=
  iprop(dutyTok ER (kcell c (some (0, a))) 0 0 ∗ dutyTok ER (kcell c (some (2, a))) 0 0
    ∗ dutyTok ER (kcell (peer c (a.val + 1)) (some (1, c))) 0 0 ∗ dutyTok ER (kcell (peer c (a.val + 1)) (some (3, c))) 0 0)
/-- What phase `a`'s two sends leave to wait for. -/
def sendCred (c : Dev nD) (a : Fin 8) : sProp 𝕄 :=
  iprop(cred (tallyAt (kcell c (some (0, a))) () Nd) ∗ cred (tallyAt (kcell c (some (2, a))) () Ns))

theorem send_eq (c : Dev nD) (a : Fin 8) (dst : Dev nD) :
    (send c a dst : PR F PUnit) = sendP a dst (dDst c) (dDst_words c) (drSem c) (rDst c) (View.wordExact_bits rfl) (srSem c) := by
  have key : ∀ (o3 : Fin 3 → Nat) (h3) (hw) (o2 : Fin 1 → Nat) (h2) (o4 : Fin 2 → Nat) (h4), o3 = ![c.val, 0, 0] → o2 = ![c.val] → o4 = ![c.val, 0] →
      (sendP a dst (dAt o3 h3) (dAt_words o3 h3 hw) (semAt cc0_scratch8 o2 h2) (rAt o4 h4) (View.wordExact_bits rfl) (semAt cc0_scratch10 o2 h2) : PR F PUnit)
        = sendP a dst (dDst c) (dDst_words c) (drSem c) (rDst c) (View.wordExact_bits rfl) (srSem c) := by
    intro o3 h3 hw o2 h2 o4 h4 e3 e2 e4
    subst e3 e2 e4; rfl
  exact key _ _ (k0_off3_wordsi8 c) _ _ _ _ (k0_off3_eq c) (k0_off2_eq c) (k0_off4_eq c)

/-- Phase `a`'s block and scale sent to the device `a + 1` further on. -/
theorem send_wp (K : Dev nD × KC → ℕ) (c : Dev nD) (a : Fin 8) (ha : a ≠ 7) (dst : Dev nD) (hdst : dst = peer c (a.val + 1)) (Q : PUnit → sProp 𝕄) :
    iprop(pers m K ∗ qPts c a (qOf m c (peer c (a.val + 1))) ∗ sPts c a (sOf m c (peer c (a.val + 1)))
        ∗ dAny (peer c (a.val + 1)) c ∗ rAny (peer c (a.val + 1)) c ∗ sendToks c a ∗ owesX c (oweS c (7 - a.val))
        ∗ ((sendCred c a ∗ owesX c (oweS c (6 - a.val))) -∗ Q ⟨⟩))
      ⊢ WP c (send c a dst) Q := by
  subst hdst
  have ha' : a.val ≠ 7 := fun h => ha (Fin.ext h)
  have hlt := a.isLt
  have hne : c ≠ peer c (a.val + 1) := fun h => by
    have h1 : c.val = (c.val + (a.val + 1)) % 8 := congrArg Fin.val h
    have h2 : c.val < 8 := c.isLt
    omega
  have hj : oweS c (7 - a.val) = (oweS c (6 - a.val) + tallyAt (kcell (peer c (a.val + 1)) (some (3, c))) () Ns)
      + tallyAt (kcell (peer c (a.val + 1)) (some (1, c))) () Nd := by
    rw [show 7 - a.val = (6 - a.val) + 1 by omega]
    show (oweS c (6 - a.val) + tallyAt (kcell (peer c (7 - (6 - a.val))) _) () Ns) + tallyAt (kcell (peer c (7 - (6 - a.val))) _) () Nd = _
    rw [show 7 - (6 - a.val) = a.val + 1 by omega]
  rw [hj, send_eq]
  unfold sendToks
  generalize peer c (a.val + 1) = p at *
  unfold sendP
  simp only [Prog.lift, Prog.bind_op, Prog.bind_ret]
  unfold qPts sPts dAny rAny owesX
  iintro ⟨#HP, ⟨%fq, %hfq, Hq⟩, ⟨%fs, %hfs, Hs⟩, ⟨%fd, Hd⟩, ⟨%fr, Hr⟩, ⟨HtQ, HtS, HtD, HtR⟩, ⟨%W, HO⟩, Hk⟩
  iapply (Rounds.wp_send_pointsTo 𝒱₀ ER (Rd m) (c : Thread nD τ) none (c' := (p : Thread nD τ)) (src := qSrc a) (dst := dDst c) (sS := .dma (dsSem a)) (sem := .dma (drSem c)) (q := fullShare) (fs := fq) (fd := fd)
      (κ₁ := K (c, some (0, a))) (κ₂ := K (p, some (1, c))) (r₁ := 0) (r₂ := 0) (d₁ := 0) (d₂ := 0)
      (by rw [dsCell, duties_eq, dutiesAt_send c (.inl rfl) ha]; exact Finset.mem_singleton_self _)
      (by rw [drCell, duties_eq, dutiesAt_recv _ (.inl rfl) hne]; exact Finset.mem_singleton_self _)
      () () Nd (Nd_eq c) (by rw [dsCell, amount_eq]; rfl) (by rw [drCell, amount_eq]; rfl)
      (oweS c (6 - a.val) + tallyAt (kcell p (some (3, c))) () Ns) (by rw [drCell]) (W := W)
      (by
        rw [dsCell, payload_eq]
        show _ ⊢ qAny c a
        unfold qAny
        iintro H; iexists fq; rw [set_qSrc]; iexact H)
      (by
        rw [drCell, payload_eq]
        show _ ⊢ dPts p c (qOf m c p)
        unfold dPts
        iintro H; iexists _
        isplitr; swap; · rw [set_dDst]; iexact H
        ipureintro; exact (land_d a c fd fq).trans hfq)) $$ [Hq Hd HO HtQ HtD]
  · rw [dsCell, drCell, set_qSrc, set_dDst]
    isplitr; · iapply (pers_inv m K c (some (0, a))); iexact HP
    isplitr; · iapply (pers_inv m K p (some (1, c))); iexact HP
    isplitl [Hq]; · iexact Hq
    isplitl [Hd]; · iexact Hd
    isplitl [HO]; · iexact HO
    isplitl [HtQ]; · iexact HtQ
    isplitr; · iapply (pers_reached m K c (some (0, a))); iexact HP
    isplitl [HtD]; · iexact HtD
    iapply (pers_reached m K p (some (1, c))); iexact HP
  iintro ⟨HcQ, HO⟩
  iapply (Rounds.wp_send_pointsTo 𝒱₀ ER (Rd m) (c : Thread nD τ) none (c' := (p : Thread nD τ)) (src := sSrc a) (dst := rDst c) (sS := .dma (ssSem a)) (sem := .dma (srSem c)) (q := fullShare) (fs := fs) (fd := fr)
      (κ₁ := K (c, some (2, a))) (κ₂ := K (p, some (3, c))) (r₁ := 0) (r₂ := 0) (d₁ := 0) (d₂ := 0)
      (by rw [ssCell, duties_eq, dutiesAt_send c (.inr rfl) ha]; exact Finset.mem_singleton_self _)
      (by rw [srCell, duties_eq, dutiesAt_recv _ (.inr rfl) hne]; exact Finset.mem_singleton_self _)
      () () Ns (Ns_eq c) (by rw [ssCell, amount_eq]; rfl) (by rw [srCell, amount_eq]; rfl)
      (oweS c (6 - a.val)) (by rw [srCell]) (W := W)
      (by
        rw [ssCell, payload_eq]
        show _ ⊢ sAny c a
        unfold sAny
        iintro H; iexists fs; rw [set_sSrc]; iexact H)
      (by
        rw [srCell, payload_eq]
        show _ ⊢ rPts p c (sOf m c p)
        unfold rPts
        iintro H; iexists _
        isplitr; swap; · rw [set_rDst]; iexact H
        ipureintro; exact (land_s a c fr fs).trans hfs)) $$ [Hs Hr HO HtS HtR]
  · rw [ssCell, srCell, set_sSrc, set_rDst]
    isplitr; · iapply (pers_inv m K c (some (2, a))); iexact HP
    isplitr; · iapply (pers_inv m K p (some (3, c))); iexact HP
    isplitl [Hs]; · iexact Hs
    isplitl [Hr]; · iexact Hr
    isplitl [HO]; · iexact HO
    isplitl [HtS]; · iexact HtS
    isplitr; · iapply (pers_reached m K c (some (2, a))); iexact HP
    isplitl [HtR]; · iexact HtR
    iapply (pers_reached m K p (some (3, c))); iexact HP
  iintro ⟨HcS, HO⟩
  rw [wp_ret]; imodintro
  iapply Hk
  unfold sendCred
  rw [dsCell, ssCell]
  isplitl [HcQ HcS]
  · isplitl [HcQ] <;> iassumption
  · iexists W; iexact HO

end Cert.KernelIdeal.Pf
-- ==== Proof.WaitsWp.lean ====
/-
The steps that wait for another device, and the block a device keeps for itself, each executed once at a symbolic index.
-/
module

public import proofs.«01_k».proof.Proof.StepsWp

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ret_wp (c : Dev nD) {α : Type} {a : α} {Q : α → sProp 𝕄} : Q a ⊢ WP c (Prog.ret a) Q := by
  show _ ⊢ wp frame (wpE (defs₀ (F := F)) 𝒱₀ (c : Thread nD τ) none) Set.univ (Prog.ret a) Q
  rw [wp_ret]; exact fupd_intro

/-! ## Waits on the exchange's cells -/

def pos0 (c : Dev nD) (k : KC) : sProp 𝕄 := atPos ER (kcell c k) 0 ∅ 0
def zero (c : Dev nD) (k : KC) : sProp 𝕄 := semVal (kcell c k) 0

/-- A wait for a cell's one duty, nothing owed: what it delivers, and the cell's counter at zero, the cell closed. -/
theorem wait_one_wp (K : Dev nD × KC → ℕ) (c : Dev nD) (k : KC) (hd : dutiesAt c k = {0}) {sem : DmaSem sig}
    (hs : (((c : Thread nD τ), .dma sem) : GSem nD τ sig) = kcell c k)
    {s' s : Shape} {e' e : EltTy} {src : Memref sig .tc .vmem s' e'} {dst : Memref sig .tc .vmem s e} {h₁ : src.view.WordExact} {h₂ : dst.view.WordExact}
    (hN : dst.view.dmaCredit = amountAt k) {α : Type} {kk : PUnit → PR F α} (Q : α → sProp 𝕄) :
    iprop(pers m K ∗ cred (tallyAt (kcell c k) () (amountAt k)) ∗ pos0 c k ∗ owesX c 0
        ∗ ((payAt m c k 0 ∗ zero c k ∗ owesX c 0) -∗ WP c (kk ⟨⟩) Q))
      ⊢ WP c (.op (.waitDma2 sem src dst h₁ h₂) kk) Q := by
  unfold owesX pos0 zero
  iintro ⟨#HP, Hc, Hat, ⟨%W, HO⟩, Hk⟩
  iapply (Rounds.wp_wait_rest_token 𝒱₀ ER (Rd m) (c : Thread nD τ) none (κ := K (c, k))
      (wpE_waitDma2_eq 𝒱₀ (c : Thread nD τ) none Set.univ) (Set.mem_univ _) () (O := 0) (W := W) (R := 0) (m := 0) (T := ∅)
      (by rw [hs, Nat.zero_add, expect_eq, hd, hN, Finset.card_singleton, Nat.one_mul])) $$ [Hc HO Hat]
  · rw [hs, hN]
    isplitr; · iapply (pers_inv m K c k); iexact HP
    isplitl [Hc]; · iexact Hc
    isplitl [HO]; · iexact HO
    isplitr; · rw [MayWait_zero]; iempintro
    iexact Hat
  rw [hs]
  iintro ⟨HO, Hat, -, Hpay⟩
  ihave Hp := (Entails.of_eq ((rest_eq m c k).trans (by rw [hd, bigSep_singleton]))) $$ Hpay
  imod (Rounds.cell_close ER (Rd m) (Set.mem_univ (K (c, k))) (fun h => h) (R := 0 + 1) (duties_later m (kcell c k))) $$ [Hat] with Hz
  · isplitr; · iapply (pers_inv m K c k); iexact HP
    iexact Hat
  iapply Hk
  isplitl [Hp]; · iexact Hp
  isplitl [Hz]; · iexact Hz
  iexists _; iexact HO

/-- What a device holds to wait for the block and the scale of device `p`. -/
def recvCred (c : Dev nD) (p : Fin 8) : sProp 𝕄 :=
  iprop(cred (tallyAt (kcell c (some (1, p))) () Nd) ∗ cred (tallyAt (kcell c (some (3, p))) () Ns))

theorem recv_eq (c : Dev nD) (r : Fin 7) :
    (recv c r : PR F PUnit) = recvP (dDst (peer c (r.val + 1))) (dDst_words _) (drSem (peer c (r.val + 1))) (rDst (peer c (r.val + 1)))
      (View.wordExact_bits rfl) (srSem (peer c (r.val + 1))) := by
  have key : ∀ (p : Fin 8) (o3 : Fin 3 → Nat) (h3) (hw) (o2 : Fin 1 → Nat) (h2) (o4 : Fin 2 → Nat) (h4), o3 = ![p.val, 0, 0] → o2 = ![p.val] → o4 = ![p.val, 0] →
      (recvP (dAt o3 h3) (dAt_words o3 h3 hw) (semAt cc0_scratch8 o2 h2) (rAt o4 h4) (View.wordExact_bits rfl) (semAt cc0_scratch10 o2 h2) : PR F PUnit)
        = recvP (dDst p) (dDst_words p) (drSem p) (rDst p) (View.wordExact_bits rfl) (srSem p) := by
    intro p o3 h3 hw o2 h2 o4 h4 e3 e2 e4
    subst e3 e2 e4; rfl
  exact key (peer c (r.val + 1)) _ _ (k0_off8_wordsi8 c r) _ _ _ _ (k0_off8_eq c r) (k0_off7_eq c r) (k0_off9_eq c r)

theorem recv_wp (K : Dev nD × KC → ℕ) (c : Dev nD) (r : Fin 7) (Q : PUnit → sProp 𝕄) :
    iprop(pers m K ∗ recvCred c (peer c (r.val + 1)) ∗ pos0 c (some (1, peer c (r.val + 1))) ∗ pos0 c (some (3, peer c (r.val + 1))) ∗ owesX c 0
        ∗ ((dPts c (peer c (r.val + 1)) (qOf m (peer c (r.val + 1)) c) ∗ rPts c (peer c (r.val + 1)) (sOf m (peer c (r.val + 1)) c)
            ∗ zero c (some (1, peer c (r.val + 1))) ∗ zero c (some (3, peer c (r.val + 1))) ∗ owesX c 0) -∗ Q ⟨⟩))
      ⊢ WP c (recv c r) Q := by
  have hne : peer c (r.val + 1) ≠ c := fun h => by
    have h1 : (c.val + (r.val + 1)) % 8 = c.val := congrArg Fin.val h
    have h2 : c.val < 8 := c.isLt
    have h3 := r.isLt
    omega
  rw [recv_eq]
  generalize peer c (r.val + 1) = p at *
  unfold recvP recvCred
  simp only [Prog.lift, Prog.bind_op, Prog.bind_ret]
  iintro ⟨#HP, ⟨Hc1, Hc3⟩, Ha1, Ha3, HO, Hk⟩
  iapply (wait_one_wp m K c (some (1, p)) (dutiesAt_recv c (.inl rfl) hne) (drCell c p) (Nd_eq p))
  isplitr; · iexact HP
  isplitl [Hc1]; · iexact Hc1
  isplitl [Ha1]; · iexact Ha1
  isplitl [HO]; · iexact HO
  iintro ⟨Hd, Hz1, HO⟩
  iapply (wait_one_wp m K c (some (3, p)) (dutiesAt_recv c (.inr rfl) hne) (srCell c p) (Ns_eq p))
  isplitr; · iexact HP
  isplitl [Hc3]; · iexact Hc3
  isplitl [Ha3]; · iexact Ha3
  isplitl [HO]; · iexact HO
  iintro ⟨Hr, Hz3, HO⟩
  ihave Hd := (Entails.of_eq (show payAt m c (some (1, p)) 0 = dPts c p (qOf m p c) from rfl)) $$ Hd
  ihave Hr := (Entails.of_eq (show payAt m c (some (3, p)) 0 = rPts c p (sOf m p c) from rfl)) $$ Hr
  iapply (ret_wp c)
  iapply Hk
  isplitl [Hd]; · iexact Hd
  isplitl [Hr]; · iexact Hr
  isplitl [Hz1]; · iexact Hz1
  isplitl [Hz3] <;> iassumption

theorem drain_wp (K : Dev nD × KC → ℕ) (c : Dev nD) (a : Fin 8) (ha : a ≠ 7) (Q : PUnit → sProp 𝕄) :
    iprop(pers m K ∗ sendCred c a ∗ pos0 c (some (0, a)) ∗ pos0 c (some (2, a)) ∗ owesX c 0
        ∗ ((qAny c a ∗ sAny c a ∗ zero c (some (0, a)) ∗ zero c (some (2, a)) ∗ owesX c 0) -∗ Q ⟨⟩))
      ⊢ WP c (drain c a) Q := by
  unfold drain drainP sendCred
  simp only [Prog.lift, Prog.bind_op, Prog.bind_ret]
  iintro ⟨#HP, ⟨Hc1, Hc3⟩, Ha1, Ha3, HO, Hk⟩
  iapply (wait_one_wp m K c (some (0, a)) (dutiesAt_send c (.inl rfl) ha) (dsCell c a) (Nd_eq' a))
  isplitr; · iexact HP
  isplitl [Hc1]; · iexact Hc1
  isplitl [Ha1]; · iexact Ha1
  isplitl [HO]; · iexact HO
  iintro ⟨Hd, Hz1, HO⟩
  iapply (wait_one_wp m K c (some (2, a)) (dutiesAt_send c (.inr rfl) ha) (ssCell c a) (Ns_eq' a))
  isplitr; · iexact HP
  isplitl [Hc3]; · iexact Hc3
  isplitl [Ha3]; · iexact Ha3
  isplitl [HO]; · iexact HO
  iintro ⟨Hr, Hz3, HO⟩
  ihave Hd := (Entails.of_eq (show payAt m c (some (0, a)) 0 = qAny c a from rfl)) $$ Hd
  ihave Hr := (Entails.of_eq (show payAt m c (some (2, a)) 0 = sAny c a from rfl)) $$ Hr
  iapply (ret_wp c)
  iapply Hk
  isplitl [Hd]; · iexact Hd
  isplitl [Hr]; · iexact Hr
  isplitl [Hz1]; · iexact Hz1
  isplitl [Hz3] <;> iassumption

/-! ## The device's own block -/

theorem keep_q (q : Vec F S1x512x1024 .i8) : k0_pay48 q = q := by
  funext i
  show q (Shape.reshapeEquiv _ (Shape.reshapeEquiv _ (Shape.reshapeEquiv _ i))) = q i
  congr 1
  rw [Shape.reshapeEquiv_reshapeEquiv, Shape.reshapeEquiv_reshapeEquiv, Shape.reshapeEquiv_self]
theorem keep_s (y : FVec F S512x1024 .f32) : k0_pay49 (k0_pay44 y) = scaleVal y := rfl

theorem own_eq (c : Dev nD) (y : FVec F S512x1024 .f32) :
    (own c y : PR F PUnit) = ownP y ![c.val, 0, 0] (inbQ c) (packedQ c) ![c.val, 0] (inbS c) := by
  have key : ∀ (o3 : Fin 3 → Nat) (h3) (hw) (o4 : Fin 2 → Nat) (h4), o3 = ![c.val, 0, 0] → o4 = ![c.val, 0] →
      (ownP y o3 h3 hw o4 h4 : PR F PUnit) = ownP y ![c.val, 0, 0] (inbQ c) (packedQ c) ![c.val, 0] (inbS c) := by
    intro o3 h3 hw o4 h4 e3 e4
    subst e3 e4; rfl
  exact key _ _ (k0_off5_packedi8 c) _ _ (k0_off5_eq c) (k0_off6_eq c)

theorem own_wp (c : Dev nD) (y : FVec F S512x1024 .f32) (Q : PUnit → sProp 𝕄) :
    iprop(qPts c 7 (quantVal y) ∗ dAny c c ∗ rAny c c ∗ ((qAny c 7 ∗ dPts c c (quantVal y) ∗ rPts c c (scaleVal y)) -∗ Q ⟨⟩)) ⊢ WP c (own c y) Q := by
  rw [own_eq]
  unfold ownP
  simp only [Prog.lift, Prog.bind_op, Prog.bind_ret]
  unfold qPts dAny rAny
  iintro ⟨⟨%fq, %hq, Hq⟩, ⟨%fd, Hd⟩, ⟨%fr, Hr⟩, Hk⟩
  iapply (wp_load 𝒱₀ (c : Thread nD τ) none Set.univ (m := qM) (r := (rQ 7).toLoadRect) (by rw [on_whole (sp := .vmem)])) $$ Hq; iintro Hq
  rw [hq, keep_q, keep_s]
  iapply (wp_load 𝒱₀ (c : Thread nD τ) none Set.univ (m := dM) (r := (rQ c).toLoadRect) (by rw [on_whole (sp := .vmem)])) $$ Hd; iintro Hd
  iapply (wp_store 𝒱₀ (c : Thread nD τ) none Set.univ (m := dM) (r := rQ c) (Mk := Finset.univ) (by rw [View.setOn_univ, View.set_slice_whole])) $$ Hd; iintro Hd
  iapply (wp_load 𝒱₀ (c : Thread nD τ) none Set.univ (m := rM) (r := (rS c).toLoadRect) (by rw [on_whole (sp := .vmem)])) $$ Hr; iintro Hr
  iapply (wp_store 𝒱₀ (c : Thread nD τ) none Set.univ (m := rM) (r := rS c) (Mk := Finset.univ) (by rw [View.setOn_univ, View.set_slice_whole])) $$ Hr; iintro Hr
  rw [wp_ret]; imodintro
  iapply Hk
  unfold qAny dPts rPts
  isplitl [Hq]; · iexists fq; iexact Hq
  isplitl [Hd]
  · iexists _
    isplitr; swap; · iexact Hd
    ipureintro; exact store_d c _ _
  · iexists _
    isplitr; swap; · iexact Hr
    ipureintro; exact store_r c _ _

/-! ## The result written -/

/-- The result with its first `n` blocks written. -/
def oDone (c : Dev nD) (n : ℕ) : sProp 𝕄 :=
  iprop(∃ f : (cc0_stg1_0 : Ref sig .tc).ty.Contents (Elt F), ⌜∀ i : Fin 8, i.val < n → oM.view.readAt (Elt F) (rO i).toLoadRect f = oOf m c i⌝
    ∗ (c : Thread nD τ).loc cc0_stg1_0 ↦{fullShare} f)

theorem out_wp (c : Dev nD) (j : Fin 8) (Q : PUnit → sProp 𝕄) :
    iprop(dPts c j (qOf m j c) ∗ rPts c j (sOf m j c) ∗ oDone m c j.val ∗ ((dAny c j ∗ rAny c j ∗ oDone m c (j.val + 1)) -∗ Q ⟨⟩)) ⊢ WP c (outP j) Q := by
  unfold outP
  simp only [Prog.lift, Prog.bind_op, Prog.bind_ret]
  unfold dPts rPts oDone
  iintro ⟨⟨%fd, %hd, Hd⟩, ⟨%fr, %hr, Hr⟩, ⟨%fo, %ho, Ho⟩, Hk⟩
  iapply (wp_load 𝒱₀ (c : Thread nD τ) none Set.univ (m := dM) (r := (rQ j).toLoadRect) (by rw [on_whole (sp := .vmem)])) $$ Hd; iintro Hd
  iapply (wp_load 𝒱₀ (c : Thread nD τ) none Set.univ (m := rM) (r := (rE j).toLoadRect) (by rw [on_whole (sp := .vmem)]; exact rE_sub j)) $$ Hr; iintro Hr
  rw [hd, read_rE, hr]
  iapply (wp_load 𝒱₀ (c : Thread nD τ) none Set.univ (m := oM) (Finset.subset_univ _)) $$ Ho; iintro Ho
  iapply (wp_store 𝒱₀ (c : Thread nD τ) none Set.univ (m := oM) (r := rO j) (Mk := Finset.univ) (Finset.subset_univ _)) $$ Ho; iintro Ho
  rw [wp_ret]; imodintro
  iapply Hk
  unfold dAny rAny
  isplitl [Hd]; · iexists fd; iexact Hd
  isplitl [Hr]; · iexists fr; iexact Hr
  iexists _
  isplitr; swap; · iexact Ho
  ipureintro
  exact store_o j fo (oOf m c) ho

end Cert.KernelIdeal.Pf
-- ==== Proof.Body.lean ====
/-
The body, stage by stage: the signals, the barrier, the seven phases that send, the last block, the seven that arrive,
the result, the seven sends waited for.
-/
module

public import proofs.«01_k».proof.Proof.WaitsWp

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Seven steps in a row -/

theorem bind_wp (c : Dev nD) {α β : Type} (p : PR F α) (k : α → PR F β) (Q : β → sProp 𝕄) :
    WP c p (fun a => WP c (k a) Q) ⊢ WP c (p >>= k) Q := by
  show wp frame (wpE (defs₀ (F := F)) 𝒱₀ (c : Thread nD τ) none) Set.univ p _ ⊢ wp frame (wpE (defs₀ (F := F)) 𝒱₀ (c : Thread nD τ) none) Set.univ (p >>= k) Q
  rw [wp_bind]

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Two steps in a row: the first by its rule, then the rest. -/
theorem then_wp (c : Dev nD) {I I' A B : sProp 𝕄} {p : PR F PUnit} {k : PUnit → PR F PUnit} {Q : PUnit → sProp 𝕄}
    (h : ∀ Q : PUnit → sProp 𝕄, iprop(I ∗ A ∗ ((I' ∗ B) -∗ Q ⟨⟩)) ⊢ WP c p Q) :
    iprop(I ∗ A ∗ ((I' ∗ B) -∗ WP c (k ⟨⟩) Q)) ⊢ WP c (p >>= k) Q :=
  (h fun a => WP c (k a) Q).trans (bind_wp c p k Q)

theorem seq7_wp (c : Dev nD) (p : Fin 7 → PR F PUnit) (I : ℕ → sProp 𝕄) (A B : Fin 7 → sProp 𝕄)
    (h : ∀ (r : Fin 7) (Q : PUnit → sProp 𝕄), iprop(I r.val ∗ A r ∗ ((I (r.val + 1) ∗ B r) -∗ Q ⟨⟩)) ⊢ WP c (p r) Q) (Q : PUnit → sProp 𝕄) :
    iprop(I 0 ∗ bigSep Finset.univ A ∗ ((I 7 ∗ bigSep Finset.univ B) -∗ Q ⟨⟩))
      ⊢ WP c (do p 0; p 1; p 2; p 3; p 4; p 5; p 6) Q := by
  rw [bigSep_fin7, bigSep_fin7]
  iintro ⟨HI, ⟨H0, H1, H2, H3, H4, H5, H6⟩, Hk⟩
  iapply (then_wp c (I := I 0) (I' := I 1) (h 0)) $$ [HI H0 H1 H2 H3 H4 H5 H6 Hk]
  isplitl [HI]; · iexact HI
  isplitl [H0]; · iexact H0
  iintro ⟨HI, H0⟩
  iapply (then_wp c (I := I 1) (I' := I 2) (h 1)) $$ [HI H0 H1 H2 H3 H4 H5 H6 Hk]
  isplitl [HI]; · iexact HI
  isplitl [H1]; · iexact H1
  iintro ⟨HI, H1⟩
  iapply (then_wp c (I := I 2) (I' := I 3) (h 2)) $$ [HI H0 H1 H2 H3 H4 H5 H6 Hk]
  isplitl [HI]; · iexact HI
  isplitl [H2]; · iexact H2
  iintro ⟨HI, H2⟩
  iapply (then_wp c (I := I 3) (I' := I 4) (h 3)) $$ [HI H0 H1 H2 H3 H4 H5 H6 Hk]
  isplitl [HI]; · iexact HI
  isplitl [H3]; · iexact H3
  iintro ⟨HI, H3⟩
  iapply (then_wp c (I := I 4) (I' := I 5) (h 4)) $$ [HI H0 H1 H2 H3 H4 H5 H6 Hk]
  isplitl [HI]; · iexact HI
  isplitl [H4]; · iexact H4
  iintro ⟨HI, H4⟩
  iapply (then_wp c (I := I 5) (I' := I 6) (h 5)) $$ [HI H0 H1 H2 H3 H4 H5 H6 Hk]
  isplitl [HI]; · iexact HI
  isplitl [H5]; · iexact H5
  iintro ⟨HI, H5⟩
  iapply (show iprop(I 6 ∗ A 6 ∗ ((I 7 ∗ B 6) -∗ Q ⟨⟩)) ⊢ WP c (p 6) Q from h 6 Q)
  isplitl [HI]; · iexact HI
  isplitl [H6]; · iexact H6
  iintro ⟨HI, H6⟩
  iapply Hk
  isplitl [HI]; · iexact HI
  isplitl [H0]; · iexact H0
  isplitl [H1]; · iexact H1
  isplitl [H2]; · iexact H2
  isplitl [H3]; · iexact H3
  isplitl [H4]; · iexact H4
  isplitl [H5]; · iexact H5
  iexact H6

/-! ## The barrier -/

def sigTok (c : Dev nD) (r : Fin 7) : sProp 𝕄 := dutyTok ER (kcell (peer c (r.val + 1)) none) 0 c
/-- What device `c` signals the device `r + 1` further on with. -/
def sigPre (c : Dev nD) (r : Fin 7) : sProp 𝕄 := iprop(sigTok c r ∗ dAny c (peer c (r.val + 1)) ∗ rAny c (peer c (r.val + 1)))

theorem peer_ne (c : Dev nD) (r : Fin 7) : peer c (r.val + 1) ≠ c := fun h => by
  have h1 : (c.val + (r.val + 1)) % 8 = c.val := congrArg Fin.val h
  have h2 : c.val < 8 := c.isLt
  have h3 := r.isLt
  omega

theorem signal_wp (K : Dev nD × KC → ℕ) (c : Dev nD) (r : Fin 7) (n : Dev nD) (hn : n = peer c (r.val + 1)) (Q : PUnit → sProp 𝕄) :
    iprop((pers m K ∗ owesX c (oweB c (7 - r.val))) ∗ sigPre c r ∗ (((pers m K ∗ owesX c (oweB c (7 - (r.val + 1)))) ∗ emp) -∗ Q ⟨⟩))
      ⊢ WP c (semSignalWord n barS 1#32) Q := by
  subst hn
  have hj : oweB c (7 - r.val) = oweB c (7 - (r.val + 1)) + tallyAt (kcell (peer c (r.val + 1)) none) () 1 := by
    have h3 := r.isLt
    rw [show 7 - r.val = (7 - (r.val + 1)) + 1 by omega]
    show oweB c _ + tallyAt (kcell (peer c (7 - (7 - (r.val + 1)))) none) () 1 = _
    rw [show 7 - (7 - (r.val + 1)) = r.val + 1 by omega]
  have hne := peer_ne c r
  rw [hj]
  unfold sigPre sigTok owesX
  generalize peer c (r.val + 1) = p at *
  simp only [semSignalWord, Prog.lift, Prog.bind_op, Prog.bind_ret]
  iintro ⟨⟨#HP, ⟨%W, HO⟩⟩, ⟨Ht, Hd, Hr⟩, Hk⟩
  iapply (Rounds.wp_signal 𝒱₀ ER (Rd m) (c : Thread nD τ) none (dst := (p : Thread nD τ)) (sem := barS) (κ := K (p, none)) (r := 0)
      (d := c) (by show c ∈ (Rd m).duties (kcell p none) 0; rw [duties_eq]; exact Finset.mem_erase.mpr ⟨hne.symm, Finset.mem_univ _⟩)
      ((amount_eq m p none c).trans (by decide)) () (oweB c (7 - (r.val + 1))) rfl (W := W)) $$ [HO Ht Hd Hr]
  · isplitr; · iapply (pers_inv m K p none); iexact HP
    isplitl [HO]; · iexact HO
    isplitl [Ht]; · iexact Ht
    isplitl [Hd Hr]
    · iapply (Entails.of_eq (show (Rd m).payload ((p : Thread nD τ), .reg barS) 0 c = iprop(dAny c p ∗ rAny c p) from payload_eq m p none c).symm)
      isplitl [Hd] <;> iassumption
    iapply (pers_reached m K p none); iexact HP
  iintro HO
  iapply (ret_wp c)
  iapply Hk
  isplitl [HO]
  · isplitr; · iexact HP
    iexists W; iexact HO
  iempintro

theorem signals_wp (K : Dev nD × KC → ℕ) (c : Dev nD) (Q : PUnit → sProp 𝕄) :
    iprop((pers m K ∗ owesX c (oweB c 7)) ∗ bigSep Finset.univ (sigPre c) ∗ (((pers m K ∗ owesX c (oweS c 7)) ∗ bigSep Finset.univ fun _ : Fin 7 => iprop(emp)) -∗ Q ⟨⟩))
      ⊢ WP c (signals c) Q := by
  let n : Fin 7 → Dev nD := fun
    | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
    | 4 => ⟨k0_dev5 c, k0_dev5_lt c⟩ | 5 => ⟨k0_dev6 c, k0_dev6_lt c⟩ | 6 => ⟨k0_dev7 c, k0_dev7_lt c⟩
  have hn : ∀ r, n r = peer c (r.val + 1) := fun
    | 0 => Fin.ext (k0_dev1_eq c) | 1 => Fin.ext (k0_dev2_eq c) | 2 => Fin.ext (k0_dev3_eq c) | 3 => Fin.ext (k0_dev4_eq c)
    | 4 => Fin.ext (k0_dev5_eq c) | 5 => Fin.ext (k0_dev6_eq c) | 6 => Fin.ext (k0_dev7_eq c)
  exact seq7_wp c (fun r => semSignalWord (n r) barS 1#32) (fun j => iprop(pers m K ∗ owesX c (oweB c (7 - j)))) (sigPre c) (fun _ => iprop(emp))
    (fun r Q => signal_wp m K c r (n r) (hn r) Q) Q

theorem barrier_wp (K : Dev nD × KC → ℕ) (c : Dev nD) (Q : PUnit → sProp 𝕄) :
    iprop(pers m K ∗ owesX c (oweS c 7) ∗ cred (tallyAt (kcell c none) () 7) ∗ pos0 c none
        ∗ ((owesX c (oweS c 7) ∗ zero c none ∗ bigSep (Finset.univ.erase c) fun d : Fin 8 => iprop(dAny d c ∗ rAny d c)) -∗ Q ⟨⟩))
      ⊢ WP c (semWaitWord barS 7#32) Q := by
  simp only [semWaitWord, Prog.lift, Prog.bind_op, Prog.bind_ret]
  unfold owesX pos0 zero
  iintro ⟨#HP, ⟨%W, HO⟩, Hc, Hat, Hk⟩
  iapply (Rounds.wp_wait_rest_token 𝒱₀ ER (Rd m) (c : Thread nD τ) none (κ := K (c, none))
      (wpE_semWait_eq 𝒱₀ (c : Thread nD τ) none Set.univ) (Set.mem_univ _) () (O := oweS c 7) (W := W) (R := 0) (m := 0) (T := ∅)
      (by
        show 0 + _ = (Rd m).expect (kcell c none) 0
        rw [expect_eq]; show _ = (Finset.univ.erase c).card * 1
        rw [Finset.card_erase_of_mem (Finset.mem_univ _)]; rfl)) $$ [Hc HO Hat]
  · isplitr; · iapply (pers_inv m K c none); iexact HP
    isplitl [Hc]; · iexact Hc
    isplitl [HO]; · iexact HO
    isplitr; · iapply (mayWait_bar c 7); iapply (pers_lev m K); iexact HP
    iexact Hat
  iintro ⟨HO, Hat, -, Hpay⟩
  ihave Hp := (Entails.of_eq (show (bigSep ((Rd m).duties ((c : Thread nD τ), .reg barS) 0 \ ∅) fun d => (Rd m).payload ((c : Thread nD τ), .reg barS) 0 d)
    = bigSep (Finset.univ.erase c) fun d : Fin 8 => iprop(dAny d c ∗ rAny d c) from rest_eq m c none)) $$ Hpay
  imod (Rounds.cell_close ER (Rd m) (Set.mem_univ (K (c, none))) (fun h => h) (R := 0 + 1) (duties_later m (kcell c none))) $$ [Hat] with Hz
  · isplitr; · iapply (pers_inv m K c none); iexact HP
    iexact Hat
  iapply (ret_wp c)
  iapply Hk
  isplitl [HO]; · iexists _; iexact HO
  isplitl [Hz]; · iexact Hz
  iexact Hp

/-! ## The seven phases that send -/

/-- Before phase `a`: both of its tiles on their way; the block's buffer; the sends still owed. -/
def phaseI (K : Dev nD × KC → ℕ) (c : Dev nD) (n : ℕ) : sProp 𝕄 :=
  iprop(pers m K ∗ flight m c (Fin.ofNat 8 n) 0 ∗ flight m c (Fin.ofNat 8 n) 1 ∗ xPts m c ∗ (∃ f, yPts c f) ∗ owesX c (oweS c (7 - n)))
/-- What phase `a` uses up: a slot and a row to send from, the slot and row it lands in, its tokens. -/
def phaseA (c : Dev nD) (a : Fin 7) : sProp 𝕄 :=
  iprop(qAny c a.castSucc ∗ sAny c a.castSucc ∗ (dAny (peer c (a.val + 1)) c ∗ rAny (peer c (a.val + 1)) c) ∗ sendToks c a.castSucc)

theorem phase_wp (K : Dev nD × KC → ℕ) (c : Dev nD) (a : Fin 7) (dst : Dev nD) (hdst : dst = peer c (a.val + 1)) (Q : PUnit → sProp 𝕄) :
    iprop(phaseI m K c a.val ∗ phaseA c a ∗ ((phaseI m K c (a.val + 1) ∗ sendCred c a.castSucc) -∗ Q ⟨⟩)) ⊢ WP c (phase c a dst) Q := by
  have e0 : Fin.ofNat 8 a.val = a.castSucc := Fin.ext (Nat.mod_eq_of_lt (by have := a.isLt; omega))
  have e1 : Fin.ofNat 8 (a.val + 1) = a.succ := Fin.ext (Nat.mod_eq_of_lt (by have := a.isLt; show a.val + 1 < 8; omega))
  have hcol : colOf c a.castSucc = peer c (a.val + 1) := rfl
  unfold phaseI phaseA phase
  rw [e0, e1]
  iintro ⟨⟨#HP, Hf0, Hf1, Hx, ⟨%f, Hy⟩, HO⟩, ⟨Hq, Hs, ⟨Hd, Hr⟩, Ht⟩, Hk⟩
  iapply (bind_wp c)
  iapply (tile_wp m c a.castSucc 0 f (oweS c (7 - a.val)) (.inr ⟨_, rfl⟩))
  isplitr; · iapply (pers_lev m K); iexact HP
  isplitl [Hf0]; · iexact Hf0
  isplitl [HO]; · iexact HO
  isplitl [Hx]; · iexact Hx
  isplitl [Hy]; · iexact Hy
  iintro ⟨Hw, Hg, Hz, HO, Hx, Hy⟩
  iapply (bind_wp c)
  iapply (start_wp m c a.succ 0)
  isplitl [Hw]; · iexact Hw
  isplitl [Hg]; · iexact Hg
  isplitl [Hz]; · iexact Hz
  iintro Hf0
  iapply (bind_wp c)
  iapply (tile_wp m c a.castSucc 1 _ (oweS c (7 - a.val)) (.inr ⟨_, rfl⟩))
  isplitr; · iapply (pers_lev m K); iexact HP
  isplitl [Hf1]; · iexact Hf1
  isplitl [HO]; · iexact HO
  isplitl [Hx]; · iexact Hx
  isplitl [Hy]; · iexact Hy
  iintro ⟨Hw, Hg, Hz, HO, Hx, Hy⟩
  iapply (bind_wp c)
  iapply (start_wp m c a.succ 1)
  isplitl [Hw]; · iexact Hw
  isplitl [Hg]; · iexact Hg
  isplitl [Hz]; · iexact Hz
  iintro Hf1
  rw [yPut_yOf, hcol]
  iapply (bind_wp c)
  iapply (quant_wp c a.castSucc)
  isplitl [Hy]; · iexact Hy
  isplitl [Hq]; · iexact Hq
  isplitl [Hs]; · iexact Hs
  iintro ⟨Hy, Hq, Hs⟩
  iapply (send_wp m K c a.castSucc (by intro h; have := congrArg Fin.val h; have h2 := a.isLt; change a.val = 7 at this; omega) dst hdst Q)
  isplitr; · iexact HP
  isplitl [Hq]; · iexact Hq
  isplitl [Hs]; · iexact Hs
  isplitl [Hd]; · iexact Hd
  isplitl [Hr]; · iexact Hr
  isplitl [Ht]; · iexact Ht
  isplitl [HO]; · iexact HO
  iintro ⟨Hc, HO⟩
  iapply Hk
  isplitr [Hc]
  · isplitr; · iexact HP
    isplitl [Hf0]; · iexact Hf0
    isplitl [Hf1]; · iexact Hf1
    isplitl [Hx]; · iexact Hx
    isplitl [Hy]; · iexists _; iexact Hy
    rw [show 7 - (a.val + 1) = 6 - a.castSucc.val by show _ = 6 - a.val; omega]
    iexact HO
  · iexact Hc

theorem sends_wp (K : Dev nD × KC → ℕ) (c : Dev nD) (Q : PUnit → sProp 𝕄) :
    iprop(phaseI m K c 0 ∗ bigSep Finset.univ (phaseA c) ∗ ((phaseI m K c 7 ∗ bigSep Finset.univ fun a : Fin 7 => sendCred c a.castSucc) -∗ Q ⟨⟩))
      ⊢ WP c (sends c) Q := by
  let n : Fin 7 → Dev nD := fun
    | 0 => ⟨k0_dev8 c, k0_dev8_lt c⟩ | 1 => ⟨k0_dev10 c, k0_dev10_lt c⟩ | 2 => ⟨k0_dev12 c, k0_dev12_lt c⟩ | 3 => ⟨k0_dev14 c, k0_dev14_lt c⟩
    | 4 => ⟨k0_dev16 c, k0_dev16_lt c⟩ | 5 => ⟨k0_dev18 c, k0_dev18_lt c⟩ | 6 => ⟨k0_dev20 c, k0_dev20_lt c⟩
  have hn : ∀ r, n r = peer c (r.val + 1) := fun
    | 0 => Fin.ext (k0_dev8_eq c) | 1 => Fin.ext (k0_dev10_eq c) | 2 => Fin.ext (k0_dev12_eq c) | 3 => Fin.ext (k0_dev14_eq c)
    | 4 => Fin.ext (k0_dev16_eq c) | 5 => Fin.ext (k0_dev18_eq c) | 6 => Fin.ext (k0_dev20_eq c)
  exact seq7_wp c (fun a => phase c a (n a)) (phaseI m K c) (phaseA c) (fun a => sendCred c a.castSucc)
    (fun a Q => phase_wp m K c a (n a) (hn a) Q) Q

/-! ## The blocks that arrive, the result, the sends waited for -/

def recvPre (c : Dev nD) (p : Fin 8) : sProp 𝕄 := iprop(recvCred c p ∗ pos0 c (some (1, p)) ∗ pos0 c (some (3, p)))
def recvPost (c : Dev nD) (p : Fin 8) : sProp 𝕄 :=
  iprop((dPts c p (qOf m p c) ∗ rPts c p (sOf m p c)) ∗ zero c (some (1, p)) ∗ zero c (some (3, p)))

theorem recvs_wp (K : Dev nD × KC → ℕ) (c : Dev nD) (Q : PUnit → sProp 𝕄) :
    iprop((pers m K ∗ owesX c 0) ∗ (bigSep Finset.univ fun r : Fin 7 => recvPre c (peer c (r.val + 1)))
        ∗ (((pers m K ∗ owesX c 0) ∗ bigSep Finset.univ fun r : Fin 7 => recvPost m c (peer c (r.val + 1))) -∗ Q ⟨⟩))
      ⊢ WP c (recvs c) Q :=
  seq7_wp c (recv c) (fun _ => iprop(pers m K ∗ owesX c 0)) (fun r => recvPre c (peer c (r.val + 1))) (fun r => recvPost m c (peer c (r.val + 1)))
    (fun r Q => by
      unfold recvPre recvPost
      iintro ⟨⟨#HP, HO⟩, ⟨Hc, H1, H3⟩, Hk⟩
      iapply (recv_wp m K c r Q)
      isplitr; · iexact HP
      isplitl [Hc]; · iexact Hc
      isplitl [H1]; · iexact H1
      isplitl [H3]; · iexact H3
      isplitl [HO]; · iexact HO
      iintro ⟨Hd, Hr, Hz1, Hz3, HO⟩
      iapply Hk
      isplitl [HO]
      · isplitr; · iexact HP
        iexact HO
      isplitl [Hd Hr]
      · isplitl [Hd] <;> iassumption
      isplitl [Hz1] <;> iassumption) Q

def drainPre (c : Dev nD) (a : Fin 7) : sProp 𝕄 := iprop(sendCred c a.castSucc ∗ pos0 c (some (0, a.castSucc)) ∗ pos0 c (some (2, a.castSucc)))
def drainPost (c : Dev nD) (a : Fin 7) : sProp 𝕄 :=
  iprop((qAny c a.castSucc ∗ sAny c a.castSucc) ∗ zero c (some (0, a.castSucc)) ∗ zero c (some (2, a.castSucc)))

theorem drains_wp (K : Dev nD × KC → ℕ) (c : Dev nD) (Q : PUnit → sProp 𝕄) :
    iprop((pers m K ∗ owesX c 0) ∗ bigSep Finset.univ (drainPre c) ∗ (((pers m K ∗ owesX c 0) ∗ bigSep Finset.univ (drainPost c)) -∗ Q ⟨⟩))
      ⊢ WP c (drains c) Q :=
  seq7_wp c (fun a => drain c a.castSucc) (fun _ => iprop(pers m K ∗ owesX c 0)) (drainPre c) (drainPost c)
    (fun a Q => by
      unfold drainPre drainPost
      iintro ⟨⟨#HP, HO⟩, ⟨Hc, H1, H3⟩, Hk⟩
      iapply (drain_wp m K c a.castSucc (by intro h; have := congrArg Fin.val h; have h2 := a.isLt; change a.val = 7 at this; omega) Q)
      isplitr; · iexact HP
      isplitl [Hc]; · iexact Hc
      isplitl [H1]; · iexact H1
      isplitl [H3]; · iexact H3
      isplitl [HO]; · iexact HO
      iintro ⟨Hd, Hr, Hz1, Hz3, HO⟩
      iapply Hk
      isplitl [HO]
      · isplitr; · iexact HP
        iexact HO
      isplitl [Hd Hr]
      · isplitl [Hd] <;> iassumption
      isplitl [Hz1] <;> iassumption) Q

def outPre (c : Dev nD) (j : Fin 8) : sProp 𝕄 := iprop(dPts c j (qOf m j c) ∗ rPts c j (sOf m j c))
def outPost (c : Dev nD) (j : Fin 8) : sProp 𝕄 := iprop(dAny c j ∗ rAny c j)

theorem bigSep_fin8 (Φ : Fin 8 → sProp 𝕄) : bigSep Finset.univ Φ = iprop(Φ 0 ∗ bigSep Finset.univ fun r : Fin 7 => Φ r.succ) := by
  rw [bigSep_fin7]
  exact bigSep_univ_eq_bigSepL [0, 1, 2, 3, 4, 5, 6, 7] (by decide) (by decide) Φ

theorem outs_wp (c : Dev nD) (Q : PUnit → sProp 𝕄) :
    iprop(oDone m c 0 ∗ bigSep Finset.univ (outPre m c) ∗ ((oDone m c 8 ∗ bigSep Finset.univ (outPost c)) -∗ Q ⟨⟩)) ⊢ WP c outs Q := by
  have h (j : Fin 8) (Q : PUnit → sProp 𝕄) : iprop(oDone m c j.val ∗ outPre m c j ∗ ((oDone m c (j.val + 1) ∗ outPost c j) -∗ Q ⟨⟩)) ⊢ WP c (outP j) Q := by
    unfold outPre outPost
    iintro ⟨HO, ⟨Hd, Hr⟩, Hk⟩
    iapply (out_wp m c j Q)
    isplitl [Hd]; · iexact Hd
    isplitl [Hr]; · iexact Hr
    isplitl [HO]; · iexact HO
    iintro ⟨Hd, Hr, HO⟩
    iapply Hk
    isplitl [HO]; · iexact HO
    isplitl [Hd] <;> iassumption
  rw [bigSep_fin8, bigSep_fin8]
  show _ ⊢ WP c (outP 0 >>= fun _ => (do outP (Fin.succ 0); outP (Fin.succ 1); outP (Fin.succ 2); outP (Fin.succ 3); outP (Fin.succ 4); outP (Fin.succ 5); outP (Fin.succ 6))) Q
  iintro ⟨HO, ⟨H0, Hs⟩, Hk⟩
  iapply (then_wp c (h 0))
  isplitl [HO]; · iexact HO
  isplitl [H0]; · iexact H0
  iintro ⟨HO, H0⟩
  iapply (seq7_wp c (fun r : Fin 7 => outP r.succ) (fun n => oDone m c (n + 1)) (fun r => outPre m c r.succ) (fun r => outPost c r.succ) (fun r Q => h r.succ Q) Q)
  isplitl [HO]; · iexact HO
  isplitl [Hs]; · iexact Hs
  iintro ⟨HO, Hs⟩
  iapply Hk
  isplitl [HO]; · iexact HO
  isplitl [H0] <;> iassumption

end Cert.KernelIdeal.Pf
-- ==== Proof.Whole.lean ====
/-
The whole body, from what a device starts with to what it ends with.
-/
module

public import proofs.«01_k».proof.Proof.Body

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Eight of a kind, split where the body does -/

theorem erase_peers (c : Fin 8) : (Finset.univ.erase c : Finset (Fin 8)) = [peer c 1, peer c 2, peer c 3, peer c 4, peer c 5, peer c 6, peer c 7].toFinset := by
  revert c; decide
theorem nodup_peers (c : Fin 8) : ([peer c 1, peer c 2, peer c 3, peer c 4, peer c 5, peer c 6, peer c 7] : List (Fin 8)).Nodup := by
  revert c; decide
/-- The seven others are the seven around. -/
theorem bigSep_others (c : Dev nD) (Φ : Fin 8 → sProp 𝕄) : bigSep (Finset.univ.erase (c : Fin 8)) Φ = bigSep Finset.univ fun r : Fin 7 => Φ (peer c (r.val + 1)) := by
  rw [bigSep_fin7]
  exact bigSep_eq_bigSepL_of_eq [peer c 1, peer c 2, peer c 3, peer c 4, peer c 5, peer c 6, peer c 7] (erase_peers c) (nodup_peers c) (Φ := Φ)
theorem bigSep_around (c : Dev nD) (Φ : Fin 8 → sProp 𝕄) : bigSep Finset.univ Φ = iprop(Φ c ∗ bigSep Finset.univ fun r : Fin 7 => Φ (peer c (r.val + 1))) := by
  rw [← bigSep_others]; exact bigSep_univ_at Φ (c : Fin 8)
theorem bigSep_last (Φ : Fin 8 → sProp 𝕄) : bigSep Finset.univ Φ = iprop(Φ 7 ∗ bigSep Finset.univ fun r : Fin 7 => Φ r.castSucc) := by
  rw [bigSep_fin7]
  exact bigSep_univ_eq_bigSepL [7, 0, 1, 2, 3, 4, 5, 6] (by decide) (by decide) Φ

theorem bigSep_cells (Φ : KC → sProp 𝕄) : bigSep Finset.univ Φ = iprop(Φ none ∗ (bigSep Finset.univ fun a : Fin 8 => Φ (some (0, a)))
    ∗ (bigSep Finset.univ fun a : Fin 8 => Φ (some (1, a))) ∗ (bigSep Finset.univ fun a : Fin 8 => Φ (some (2, a))) ∗ bigSep Finset.univ fun a : Fin 8 => Φ (some (3, a))) := by
  rw [bigSep_univ_at Φ none, show (Finset.univ.erase none : Finset KC) = Finset.univ.map Function.Embedding.some by decide, bigSep_map]
  rw [bigSep_univ_prod, bigSep_univ_eq_bigSepL [0, 1, 2, 3] (by decide) (by decide)]
  rfl

/-- A device's cells, as the body meets them. -/
def cellsBy (c : Dev nD) (Φ : KC → sProp 𝕄) : sProp 𝕄 :=
  iprop(Φ none ∗ (Φ (some (0, 7)) ∗ Φ (some (2, 7)) ∗ Φ (some (1, c)) ∗ Φ (some (3, c)))
    ∗ (bigSep Finset.univ fun a : Fin 7 => iprop(Φ (some (0, a.castSucc)) ∗ Φ (some (2, a.castSucc))))
    ∗ (bigSep Finset.univ fun r : Fin 7 => iprop(Φ (some (1, peer c (r.val + 1))) ∗ Φ (some (3, peer c (r.val + 1))))))
theorem cellsBy_out (c : Dev nD) (Φ : KC → sProp 𝕄) : bigSep Finset.univ Φ ⊢ cellsBy c Φ := by
  rw [bigSep_cells, bigSep_last fun a => Φ (some (0, a)), bigSep_last fun a => Φ (some (2, a)), bigSep_around c fun a => Φ (some (1, a)),
    bigSep_around c fun a => Φ (some (3, a))]
  unfold cellsBy
  rw [bigSep_sep', bigSep_sep']
  iintro ⟨Hn, ⟨H0, H0s⟩, ⟨H1, H1s⟩, ⟨H2, H2s⟩, ⟨H3, H3s⟩⟩
  isplitl [Hn]; · iexact Hn
  isplitl [H0 H1 H2 H3]
  · isplitl [H0]; · iexact H0
    isplitl [H2]; · iexact H2
    isplitl [H1] <;> iassumption
  isplitl [H0s H2s]
  · isplitl [H0s] <;> iassumption
  isplitl [H1s] <;> iassumption
theorem cellsBy_in (c : Dev nD) (Φ : KC → sProp 𝕄) : cellsBy c Φ ⊢ bigSep Finset.univ Φ := by
  rw [bigSep_cells, bigSep_last fun a => Φ (some (0, a)), bigSep_last fun a => Φ (some (2, a)), bigSep_around c fun a => Φ (some (1, a)),
    bigSep_around c fun a => Φ (some (3, a))]
  unfold cellsBy
  rw [bigSep_sep', bigSep_sep']
  iintro ⟨Hn, ⟨H0, H2, H1, H3⟩, ⟨H0s, H2s⟩, H1s, H3s⟩
  isplitl [Hn]; · iexact Hn
  isplitl [H0 H0s]
  · isplitl [H0] <;> iassumption
  isplitl [H1 H1s]
  · isplitl [H1] <;> iassumption
  isplitl [H2 H2s]
  · isplitl [H2] <;> iassumption
  isplitl [H3] <;> iassumption

/-- A cell no duty is for is closed as it stands. -/
theorem close_unused (K : Dev nD × KC → ℕ) (c : Dev nD) (k : KC) (hk : dutiesAt c k = ∅) :
    iprop(pers m K ∗ pos0 c k) ⊢ (|={Set.univ}=> zero c k : sProp 𝕄) := by
  unfold pos0 zero
  iintro ⟨#HP, Hat⟩
  imod (Rounds.cell_close ER (Rd m) (Set.mem_univ (K (c, k))) (fun h => h) (R := 0) (fun r _ => by
    rcases Nat.eq_zero_or_pos r with rfl | hr
    · rw [duties_eq, hk]
    · exact duties_later m (kcell c k) r hr)) $$ [Hat] with Hz
  · isplitr; · iapply (pers_inv m K c k); iexact HP
    iexact Hat
  imodintro
  iexact Hz

/-! ## What a device starts and ends with -/

/-- What the body neither gains nor loses: the rows, the block's buffer, the weights and their slots, the slots of the exchange. -/
def held (c : Dev nD) : sProp 𝕄 :=
  iprop(xPts m c ∗ (∃ f, yPts c f) ∗ (wFree c 0 ∗ wFree c 1) ∗ (gHeld m c 0 ∗ gHeld m c 1) ∗ (wZero c 0 ∗ wZero c 1)
    ∗ bigSep Finset.univ (qAny c) ∗ bigSep Finset.univ (sAny c) ∗ bigSep Finset.univ (dAny c) ∗ bigSep Finset.univ (rAny c))
/-- The tokens and credits of the exchange. -/
def payToks (c : Dev nD) : sProp 𝕄 :=
  iprop(bigSep Finset.univ (sigTok c) ∗ bigSep Finset.univ fun a : Fin 7 => sendToks c a.castSucc)
def barCred (c : Dev nD) : sProp 𝕄 := cred (tallyAt (kcell c none) () 7)
def allCred (c : Dev nD) : sProp 𝕄 := iprop(barCred c ∗ bigSep Finset.univ fun r : Fin 7 => recvCred c (peer c (r.val + 1)))

theorem colOf_seven (c : Dev nD) : colOf c 7 = c := Fin.ext (by
  have h : c.val < 8 := c.isLt
  show (c.val + 7 + 1) % 8 = c.val
  omega)

theorem body_wp (K : Dev nD × KC → ℕ) (c : Dev nD) (Q : PUnit → sProp 𝕄) :
    iprop(pers m K ∗ held m c ∗ bigSep Finset.univ (pos0 c) ∗ payToks c ∗ allCred c ∗ oDone m c 0 ∗ owesX c (oweB c 7)
        ∗ ((held m c ∗ bigSep Finset.univ (zero c) ∗ oDone m c 8 ∗ owesX c 0) -∗ Q ⟨⟩))
      ⊢ WP c body Q := by
  unfold body
  simp only [Prog.lift, Prog.bind_op, Prog.bind_ret, wp_deviceId]
  iintro ⟨#HP, Hheld, Hpos, Htok, Hcred, Hout, HO, Hk⟩
  ihave Hpos := (cellsBy_out c (pos0 c)) $$ Hpos
  unfold held payToks allCred barCred
  rw [bigSep_around c (dAny c), bigSep_around c (rAny c), bigSep_last (qAny c), bigSep_last (sAny c)]
  unfold cellsBy
  icases Hheld with ⟨Hx, Hy, ⟨Hw0, Hw1⟩, ⟨Hg0, Hg1⟩, ⟨Hz0, Hz1⟩, ⟨Hq7, Hq⟩, ⟨Hs7, Hs⟩, ⟨Hdc, Hd⟩, ⟨Hrc, Hr⟩⟩
  icases Hpos with ⟨Hpn, ⟨Hp0, Hp2, Hp1, Hp3⟩, Hpd, Hpr⟩
  icases Htok with ⟨Hts, Htd⟩
  icases Hcred with ⟨Hcb, Hcr⟩
  -- the signals
  iapply (bind_wp c)
  iapply (signals_wp m K c)
  isplitl [HO]
  · isplitr; · iexact HP
    iexact HO
  isplitl [Hts Hd Hr]
  · iapply (Entails.of_eq (show iprop(bigSep Finset.univ (sigTok c) ∗ (bigSep Finset.univ fun r : Fin 7 => dAny c (peer c (r.val + 1)))
        ∗ bigSep Finset.univ fun r : Fin 7 => rAny c (peer c (r.val + 1))) = bigSep Finset.univ (sigPre c) by
      rw [← bigSep_sep', ← bigSep_sep']; rfl))
    isplitl [Hts]; · iexact Hts
    isplitl [Hd] <;> iassumption
  iintro ⟨⟨-, HO⟩, -⟩
  -- the barrier
  iapply (bind_wp c)
  iapply (barrier_wp m K c)
  isplitr; · iexact HP
  isplitl [HO]; · iexact HO
  isplitl [Hcb]; · iexact Hcb
  isplitl [Hpn]; · iexact Hpn
  iintro ⟨HO, Hzn, Hdr⟩
  ihave Hdr := (Entails.of_eq (bigSep_others c fun d : Fin 8 => iprop(dAny d c ∗ rAny d c))) $$ Hdr
  -- the first two tiles
  iapply (bind_wp c)
  iapply (start_wp m c 0 0)
  isplitl [Hw0]; · iexact Hw0
  isplitl [Hg0]; · iexact Hg0
  isplitl [Hz0]; · iexact Hz0
  iintro Hf0
  iapply (bind_wp c)
  iapply (start_wp m c 0 1)
  isplitl [Hw1]; · iexact Hw1
  isplitl [Hg1]; · iexact Hg1
  isplitl [Hz1]; · iexact Hz1
  iintro Hf1
  -- the seven phases
  iapply (bind_wp c)
  iapply (sends_wp m K c)
  isplitl [Hf0 Hf1 Hx Hy HO]
  · unfold phaseI
    isplitr; · iexact HP
    isplitl [Hf0]; · iexact Hf0
    isplitl [Hf1]; · iexact Hf1
    isplitl [Hx]; · iexact Hx
    isplitl [Hy]; · iexact Hy
    iexact HO
  isplitl [Hq Hs Hdr Htd]
  · iapply (Entails.of_eq (show iprop((bigSep Finset.univ fun a : Fin 7 => qAny c a.castSucc) ∗ (bigSep Finset.univ fun a : Fin 7 => sAny c a.castSucc)
        ∗ (bigSep Finset.univ fun r : Fin 7 => iprop(dAny (peer c (r.val + 1)) c ∗ rAny (peer c (r.val + 1)) c))
        ∗ bigSep Finset.univ fun a : Fin 7 => sendToks c a.castSucc) = bigSep Finset.univ (phaseA c) by
      rw [← bigSep_sep', ← bigSep_sep', ← bigSep_sep']; rfl))
    isplitl [Hq]; · iexact Hq
    isplitl [Hs]; · iexact Hs
    isplitl [Hdr] <;> iassumption
  iintro ⟨HI, Hsc⟩
  unfold phaseI
  icases HI with ⟨-, Hf0, Hf1, Hx, ⟨%f, Hy⟩, HO⟩
  -- the device's own block
  iapply (bind_wp c)
  iapply (tile_wp m c 7 0 f (oweS c 0) (.inr ⟨0, rfl⟩))
  isplitr; · iapply (pers_lev m K); iexact HP
  isplitl [Hf0]; · iexact Hf0
  isplitl [HO]; · iexact HO
  isplitl [Hx]; · iexact Hx
  isplitl [Hy]; · iexact Hy
  iintro ⟨Hw0, Hg0, Hz0, HO, Hx, Hy⟩
  iapply (bind_wp c)
  iapply (tile_wp m c 7 1 _ (oweS c 0) (.inr ⟨0, rfl⟩))
  isplitr; · iapply (pers_lev m K); iexact HP
  isplitl [Hf1]; · iexact Hf1
  isplitl [HO]; · iexact HO
  isplitl [Hx]; · iexact Hx
  isplitl [Hy]; · iexact Hy
  iintro ⟨Hw1, Hg1, Hz1, HO, Hx, Hy⟩
  rw [yPut_yOf, colOf_seven]
  iapply (bind_wp c)
  iapply (quant_wp c 7)
  isplitl [Hy]; · iexact Hy
  isplitl [Hq7]; · iexact Hq7
  isplitl [Hs7]; · iexact Hs7
  iintro ⟨Hy, Hq7, Hs7⟩
  iapply (bind_wp c)
  iapply (own_wp c)
  isplitl [Hq7]; · iexact Hq7
  isplitl [Hdc]; · iexact Hdc
  isplitl [Hrc]; · iexact Hrc
  iintro ⟨Hq7, Hdc, Hrc⟩
  -- the blocks that arrive
  iapply (bind_wp c)
  iapply (recvs_wp m K c)
  isplitl [HO]
  · isplitr; · iexact HP
    iexact HO
  isplitl [Hcr Hpr]
  · iapply (Entails.of_eq (show iprop((bigSep Finset.univ fun r : Fin 7 => recvCred c (peer c (r.val + 1)))
        ∗ (bigSep Finset.univ fun r : Fin 7 => iprop(pos0 c (some (1, peer c (r.val + 1))) ∗ pos0 c (some (3, peer c (r.val + 1))))))
        = bigSep Finset.univ fun r : Fin 7 => recvPre c (peer c (r.val + 1)) by rw [← bigSep_sep']; rfl))
    isplitl [Hcr] <;> iassumption
  iintro ⟨⟨-, HO⟩, Hrp⟩
  ihave Hrp := (Entails.of_eq (show (bigSep Finset.univ fun r : Fin 7 => recvPost m c (peer c (r.val + 1)))
      = iprop((bigSep Finset.univ fun r : Fin 7 => outPre m c (peer c (r.val + 1)))
        ∗ bigSep Finset.univ fun r : Fin 7 => iprop(zero c (some (1, peer c (r.val + 1))) ∗ zero c (some (3, peer c (r.val + 1))))) by
    rw [← bigSep_sep']; rfl)) $$ Hrp
  icases Hrp with ⟨Hop, Hzr⟩
  -- the result
  iapply (bind_wp c)
  iapply (outs_wp m c)
  isplitl [Hout]; · iexact Hout
  isplitl [Hop Hdc Hrc]
  · rw [bigSep_around c (outPre m c)]
    isplitl [Hdc Hrc]
    · unfold outPre
      isplitl [Hdc]; · iexact Hdc
      iexact Hrc
    iexact Hop
  iintro ⟨Hout, Hdr⟩
  ihave Hdr := (Entails.of_eq (show bigSep Finset.univ (outPost (F := F) c) = iprop(bigSep Finset.univ (dAny c) ∗ bigSep Finset.univ (rAny c)) by
    rw [← bigSep_sep']; rfl)) $$ Hdr
  icases Hdr with ⟨Hd, Hr⟩
  -- the cells nothing was sent to
  imod (close_unused m K c (some (0, 7)) (by simp [dutiesAt])) $$ [Hp0] with Hp0
  · isplitr; · iexact HP
    iexact Hp0
  imod (close_unused m K c (some (2, 7)) (by simp [dutiesAt])) $$ [Hp2] with Hp2
  · isplitr; · iexact HP
    iexact Hp2
  imod (close_unused m K c (some (1, c)) (by simp [dutiesAt])) $$ [Hp1] with Hp1
  · isplitr; · iexact HP
    iexact Hp1
  imod (close_unused m K c (some (3, c)) (by simp [dutiesAt])) $$ [Hp3] with Hp3
  · isplitr; · iexact HP
    iexact Hp3
  -- the sends, waited for
  iapply (drains_wp m K c)
  isplitl [HO]
  · isplitr; · iexact HP
    iexact HO
  isplitl [Hsc Hpd]
  · iapply (Entails.of_eq (show iprop((bigSep Finset.univ fun a : Fin 7 => sendCred c a.castSucc)
        ∗ (bigSep Finset.univ fun a : Fin 7 => iprop(pos0 c (some (0, a.castSucc)) ∗ pos0 c (some (2, a.castSucc)))))
        = bigSep Finset.univ (drainPre c) by rw [← bigSep_sep']; rfl))
    isplitl [Hsc] <;> iassumption
  iintro ⟨⟨-, HO⟩, Hdp⟩
  ihave Hdp := (Entails.of_eq (show bigSep Finset.univ (drainPost (F := F) c)
      = iprop(((bigSep Finset.univ fun a : Fin 7 => qAny c a.castSucc) ∗ bigSep Finset.univ fun a : Fin 7 => sAny c a.castSucc)
        ∗ bigSep Finset.univ fun a : Fin 7 => iprop(zero c (some (0, a.castSucc)) ∗ zero c (some (2, a.castSucc)))) by
    rw [← bigSep_sep', ← bigSep_sep']; rfl)) $$ Hdp
  icases Hdp with ⟨⟨Hq, Hs⟩, Hzd⟩
  iapply Hk
  isplitl [Hx Hy Hw0 Hw1 Hg0 Hg1 Hz0 Hz1 Hq7 Hs7 Hq Hs Hd Hr]
  · isplitl [Hx]; · iexact Hx
    isplitl [Hy]; · iexists _; iexact Hy
    isplitl [Hw0 Hw1]; · isplitl [Hw0] <;> iassumption
    isplitl [Hg0 Hg1]; · isplitl [Hg0] <;> iassumption
    isplitl [Hz0 Hz1]; · isplitl [Hz0] <;> iassumption
    isplitl [Hq7 Hq]; · isplitl [Hq7] <;> iassumption
    isplitl [Hs7 Hs]
    · isplitl [Hs7]
      · unfold sPts sAny
        icases Hs7 with ⟨%g, -, Hs7⟩
        iexists g; iexact Hs7
      iexact Hs
    rw [← bigSep_around c (dAny c), ← bigSep_around c (rAny c)]
    isplitl [Hd] <;> iassumption
  isplitl [Hzn Hp0 Hp1 Hp2 Hp3 Hzd Hzr]
  · iapply (cellsBy_in c (zero c))
    unfold cellsBy
    isplitl [Hzn]; · iexact Hzn
    isplitl [Hp0 Hp1 Hp2 Hp3]
    · isplitl [Hp0]; · iexact Hp0
      isplitl [Hp2]; · iexact Hp2
      isplitl [Hp1] <;> iassumption
    isplitl [Hzd] <;> iassumption
  isplitl [Hout]; · iexact Hout
  iexact HO

end Cert.KernelIdeal.Pf
-- ==== Proof.Obl.lean ====
/-
The proof data of the one region, and its body obligation.
-/
module

public import proofs.«01_k».proof.Proof.Whole
public import Idealize.ShloMosaic.Lib.Ring

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

/-- A buffer whole at some contents is each of its parts at some contents. -/
theorem cut_any {B : Type} [Fintype B] [DecidableEq B] {ℓ : Loc nD τ sig} (I : B → Finset (Idx ℓ)) (hd : ∀ b b', b ≠ b' → Disjoint (I b) (I b'))
    (hc : Finset.univ.biUnion I = Finset.univ) :
    iprop(∃ f : Buf (Elt F) ℓ, ℓ ↦{fullShare} f) ⊢ (bigSep Finset.univ fun b => iprop(∃ f : Buf (Elt F) ℓ, ℓ ↦[I b]{fullShare} f) : sProp 𝕄) := by
  iintro ⟨%f, H⟩
  ihave H := (Entails.of_eq (Ring.pointsTo_blocks (Ix := Unit) (Val := Elt F) (Name := ℕ) (U := UU) (Lvl := ℕ) I hd hc (q := fullShare) f)) $$ H
  have h : ∀ b, (ℓ ↦[I b]{fullShare} f : sProp 𝕄) ⊢ iprop(∃ f : Buf (Elt F) ℓ, ℓ ↦[I b]{fullShare} f) := fun b => by
    iintro H; iexists f; iexact H
  iapply (show (bigSep Finset.univ fun b => (ℓ ↦[I b]{fullShare} f : sProp 𝕄)) ⊢ bigSep Finset.univ fun b => iprop(∃ f : Buf (Elt F) ℓ, ℓ ↦[I b]{fullShare} f) from bigSep_mono fun b _ => h b)
  iexact H
theorem join_any {B : Type} [Fintype B] [DecidableEq B] {ℓ : Loc nD τ sig} (I : B → Finset (Idx ℓ)) (hd : ∀ b b', b ≠ b' → Disjoint (I b) (I b'))
    (hc : Finset.univ.biUnion I = Finset.univ) (f₀ : Buf (Elt F) ℓ) :
    (bigSep Finset.univ fun b => iprop(∃ f : Buf (Elt F) ℓ, ℓ ↦[I b]{fullShare} f) : sProp 𝕄) ⊢ iprop(∃ f : Buf (Elt F) ℓ, ℓ ↦{fullShare} f) :=
  Ring.pointsTo_blocks_join_exists I hd hc f₀

/-- A scratch buffer whole, at some contents. -/
abbrev whole (c : Dev nD) (b : Ref sig .tc) : sProp 𝕄 := iprop(∃ f : Buf (Elt F) ((c : Thread nD τ).loc b), (c : Thread nD τ).loc b ↦{fullShare} f)

theorem w_cut (c : Dev nD) : (whole c cc0_scratch0 : sProp 𝕄) ⊢ bigSep Finset.univ (wFree (F := F) c) :=
  cut_any (ℓ := (c : Thread nD τ).loc cc0_scratch0) (fun t : Fin 2 => (rW t).set) disj_rW cover_rW
theorem q_cut (c : Dev nD) : (whole c cc0_scratch2 : sProp 𝕄) ⊢ bigSep Finset.univ (qAny (F := F) c) :=
  cut_any (ℓ := (c : Thread nD τ).loc cc0_scratch2) (fun t : Fin 8 => (rQ t).set) disj_rQ cover_rQ
theorem d_cut (c : Dev nD) : (whole c cc0_scratch3 : sProp 𝕄) ⊢ bigSep Finset.univ (dAny (F := F) c) :=
  cut_any (ℓ := (c : Thread nD τ).loc cc0_scratch3) (fun t : Fin 8 => (rQ t).set) disj_rQ cover_rQ
theorem s_cut (c : Dev nD) : (whole c cc0_scratch4 : sProp 𝕄) ⊢ bigSep Finset.univ (sAny (F := F) c) :=
  cut_any (ℓ := (c : Thread nD τ).loc cc0_scratch4) (fun t : Fin 8 => (rS t).set) disj_rS cover_rS
theorem r_cut (c : Dev nD) : (whole c cc0_scratch5 : sProp 𝕄) ⊢ bigSep Finset.univ (rAny (F := F) c) :=
  cut_any (ℓ := (c : Thread nD τ).loc cc0_scratch5) (fun t : Fin 8 => (rS t).set) disj_rS cover_rS
include m in
theorem w_join (c : Dev nD) : bigSep Finset.univ (wFree (F := F) c) ⊢ (whole c cc0_scratch0 : sProp 𝕄) :=
  join_any (ℓ := (c : Thread nD τ).loc cc0_scratch0) (fun t : Fin 2 => (rW t).set) disj_rW cover_rW (m _)
include m in
theorem q_join (c : Dev nD) : bigSep Finset.univ (qAny (F := F) c) ⊢ (whole c cc0_scratch2 : sProp 𝕄) :=
  join_any (ℓ := (c : Thread nD τ).loc cc0_scratch2) (fun t : Fin 8 => (rQ t).set) disj_rQ cover_rQ (m _)
include m in
theorem d_join (c : Dev nD) : bigSep Finset.univ (dAny (F := F) c) ⊢ (whole c cc0_scratch3 : sProp 𝕄) :=
  join_any (ℓ := (c : Thread nD τ).loc cc0_scratch3) (fun t : Fin 8 => (rQ t).set) disj_rQ cover_rQ (m _)
include m in
theorem s_join (c : Dev nD) : bigSep Finset.univ (sAny (F := F) c) ⊢ (whole c cc0_scratch4 : sProp 𝕄) :=
  join_any (ℓ := (c : Thread nD τ).loc cc0_scratch4) (fun t : Fin 8 => (rS t).set) disj_rS cover_rS (m _)
include m in
theorem r_join (c : Dev nD) : bigSep Finset.univ (rAny (F := F) c) ⊢ (whole c cc0_scratch5 : sProp 𝕄) :=
  join_any (ℓ := (c : Thread nD τ).loc cc0_scratch5) (fun t : Fin 8 => (rS t).set) disj_rS cover_rS (m _)

/-- The slots and the block's buffer: what the scratch buffers are to the body. -/
def slots (c : Dev nD) : sProp 𝕄 :=
  iprop((∃ f, yPts c f) ∗ (wFree c 0 ∗ wFree c 1)
      ∗ bigSep Finset.univ (qAny c) ∗ bigSep Finset.univ (sAny c) ∗ bigSep Finset.univ (dAny c) ∗ bigSep Finset.univ (rAny c))

theorem slots_cut (c : Dev nD) : (Pipeline.scopedRest cfg0.spec c : sProp 𝕄) ⊢ slots c := by
  rw [scopedRest0_eq]
  unfold slots
  iintro ⟨H0, ⟨%f1, H1⟩, H2, H3, H4, H5⟩
  isplitl [H1]; · iexists f1; unfold yPts; iexact H1
  isplitl [H0]
  · iapply (Entails.of_eq (bigSep_fin_two (wFree (F := F) c)))
    iapply (w_cut c); iexact H0
  isplitl [H2]; · iapply (q_cut c); iexact H2
  isplitl [H4]; · iapply (s_cut c); iexact H4
  isplitl [H3]; · iapply (d_cut c); iexact H3
  iapply (r_cut c); iexact H5

include m in
theorem slots_join (c : Dev nD) : slots c ⊢ (Pipeline.scopedRest cfg0.spec c : sProp 𝕄) := by
  rw [scopedRest0_eq]
  unfold slots
  iintro ⟨⟨%f1, H1⟩, Hw, H2, H4, H3, H5⟩
  isplitl [Hw]
  · iapply (w_join m c)
    iapply (Entails.of_eq (bigSep_fin_two (wFree (F := F) c)).symm); iexact Hw
  isplitl [H1]; · iexists f1; unfold yPts; iexact H1
  isplitl [H2]; · iapply (q_join m c); iexact H2
  isplitl [H3]; · iapply (d_join m c); iexact H3
  isplitl [H4]; · iapply (s_join m c); iexact H4
  iapply (r_join m c); iexact H5

/-- The weights, whole. -/
def gAll (c : Dev nD) : sProp 𝕄 := iprop((c : Thread nD τ).loc main_arg1 ↦{fullShare} gs m c)
theorem gAll_eq (c : Dev nD) : gAll m c ⊣⊢ iprop(gHeld m c 0 ∗ gHeld m c 1) := by
  unfold gAll gHeld shareOf
  rw [if_pos rfl, if_neg (by decide)]
  exact pointsTo_share (PosShare.mem_left_op_right fullShare)

/-- The ghost state a device enters with. -/
def ghost (K : Dev nD × KC → ℕ) (c : Dev nD) : sProp 𝕄 :=
  iprop(((bigSep Finset.univ fun ck : Dev nD × KC => cellInv ER (Rd m) (K ck) (kcell ck.1 ck.2))
      ∗ bigSep Finset.univ fun ck : Dev nD × KC => reached ER (kcell ck.1 ck.2) 0)
    ∗ bigSep Finset.univ (pos0 c) ∗ payToks c ∗ (wZero c 0 ∗ wZero c 1))
def entry (c : Dev nD) : sProp 𝕄 := iprop((∃ K, ghost m K c) ∗ levAts L lv ∗ allCred c ∗ gAll m c)
def Φ₀ (c : Dev nD) : sProp 𝕄 := iprop(entry m c ∗ Pipeline.scopedRest cfg0.spec c)
def Φ₁ (c : Dev nD) : sProp 𝕄 :=
  iprop(bigSep Finset.univ (zero c) ∗ (wZero c 0 ∗ wZero c 1) ∗ gAll m c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => outAt m c
  Φ t := match t with
    | ⟨0, _⟩ => Φ₀ m c
    | ⟨_ + 1, _⟩ => Φ₁ m c
  q _ := fullShare
  owed t := match t with
    | ⟨0, _⟩ => oweB c 7
    | ⟨_ + 1, _⟩ => 0

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (xs m c) ∗ stg c cc0_stg1_0 (outAt m c))

theorem sound_body (c : Dev nD) : bodyPre m ρ c ⊢ WP c (body : PR F PUnit) (fun _ => bodyPost m ρ c) := by
  unfold bodyPre Φ₀ entry ghost
  iintro ⟨⟨⟨⟨%K, ⟨#HI, #HR⟩, Hpos, Htok, Hz⟩, #Hlev, Hcred, Hg⟩, Hscr⟩, Ho, ⟨%d0, %g0, %hg0, Hx⟩, ⟨%d1, %g1, %hg1, Hout⟩⟩
  have hx : g0 = xs m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = oweB c 7 from rfl]
  ihave Hscr := (slots_cut c) $$ Hscr
  unfold slots
  icases Hscr with ⟨Hy, Hw, Hq, Hs, Hd, Hr⟩
  ihave Hg := (gAll_eq m c).1 $$ Hg
  iapply (body_wp m K c)
  isplitr
  · unfold pers
    isplitr
    · isplitr; · iexact HI
      iexact HR
    iexact Hlev
  isplitl [Hx Hy Hw Hg Hz Hq Hs Hd Hr]
  · unfold held xPts
    isplitl [Hx]; · iexact Hx
    isplitl [Hy]; · iexact Hy
    isplitl [Hw]; · iexact Hw
    isplitl [Hg]; · iexact Hg
    isplitl [Hz]; · iexact Hz
    isplitl [Hq]; · iexact Hq
    isplitl [Hs]; · iexact Hs
    isplitl [Hd] <;> iassumption
  isplitl [Hpos]; · iexact Hpos
  isplitl [Htok]; · iexact Htok
  isplitl [Hcred]; · iexact Hcred
  isplitl [Hout]
  · unfold oDone
    iexists g1
    isplitr; · ipureintro; intro i hi; exact absurd hi (Nat.not_lt_zero _)
    iexact Hout
  isplitl [HO]; · unfold owesX; iexists W; iexact HO
  unfold held xPts oDone owesX
  iintro ⟨⟨Hx, Hy, Hw, Hg, Hz, Hq, Hs, Hd, Hr⟩, Hzero, ⟨%f, %hf, Hout⟩, ⟨%W', HO⟩⟩
  have ho : f = outAt m c := o_all f (oOf m c) hf
  subst ho
  unfold bodyPost Φ₁ Dat.owesAt Pipeline.owesWithin
  rw [show (dats m ρ 0 c).owed t0_0.succ = 0 from rfl]
  isplitl [Hzero Hz Hg Hy Hw Hq Hs Hd Hr]
  · isplitl [Hzero]; · iexact Hzero
    isplitl [Hz]; · iexact Hz
    isplitl [Hg]; · iapply (gAll_eq m c).2; iexact Hg
    iapply (slots_join m c)
    unfold slots
    isplitl [Hy]; · iexact Hy
    isplitl [Hw]; · iexact Hw
    isplitl [Hq]; · iexact Hq
    isplitl [Hs]; · iexact Hs
    isplitl [Hd] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem bigSep_wins (Φ : Fin cfg0.W → sProp 𝕄) : bigSep Finset.univ Φ = iprop(Φ (0 : Fin 2) ∗ Φ (1 : Fin 2)) := bigSep_W0 Φ

set_option maxRecDepth 32000 in
/-- The region's one obligation: the body, from what is held before its one point to what is held after. -/
theorem body_obligation (c : Dev nD) : BodyObligation (dats (F := F) m ρ 0 c) (defs₀ (F := F)) 𝒱₀ () Set.univ := fun t => by
  rw [fin_N0 t]
  rw [bigSep_wins, bigSep_wins]
  simp only [owns_stage]
  show bodyPre m ρ c ⊢ wp frame (wpE (defs₀ (F := F)) 𝒱₀ c none) Set.univ (bodyAt0 t0_0) (fun _ => bodyPost m ρ c)
  rw [body_eq]
  exact sound_body m ρ c

end Cert.KernelIdeal.Pf
-- ==== Proof.Start.lean ====
/-
The launch: the exchange's cells opened, their tokens dealt to the devices that use them, the credits counted; and the run.
-/
module

public import proofs.«01_k».proof.Proof.Obl

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted -/

/-- The kernel's own scoped semaphores: the two of the local copies, the thirty-two of the exchange. -/
abbrev osem : Fin 2 ⊕ (Fin 4 × Fin 8) → SemLoc sig := fun
  | .inl t => .dma (wSem t)
  | .inr ka => csem (some ka)
theorem ownSemFacts : Pipeline.OwnSemFacts cfg0.spec osem := by decide

theorem share_eq (c : Dev nD) (w : Fin cfg0.W) : (dats m ρ 0 c).share w = fullShare := by unfold Dat.share; split <;> rfl

def exCells : Finset (GSem nD τ sig) :=
  Finset.univ.map ⟨fun ck : Dev nD × KC => kcell ck.1 ck.2, fun a b h => Prod.ext (kcell_inj h).1 (kcell_inj h).2⟩
def exToks : Finset (GSem nD τ sig × ℕ × Fin 8) :=
  Finset.univ.map ⟨fun x : (Dev nD × KC) × Fin 8 => (kcell x.1.1 x.1.2, 0, x.2), fun a b h => by
    have h1 := kcell_inj (congrArg Prod.fst h)
    exact Prod.ext (Prod.ext h1.1 h1.2) (congrArg (fun y : GSem nD τ sig × ℕ × Fin 8 => y.2.2) h)⟩
def u₀ : UU :=
  (initOf (Pipeline.cells cfgs cellOf_inj) (Pipeline.launchToks cfgs cellOf_inj), (initOf exCells exToks, 1))

/-- The tokens of a device's own cells. -/
def ownToks (c : Dev nD) : sProp 𝕄 := bigSep Finset.univ fun k : KC => bigSep Finset.univ fun d : Fin 8 => dutyTok ER (kcell c k) 0 d
def G (c : Dev nD) : sProp 𝕄 :=
  iprop((bigSep Finset.univ fun k : KC => roundState ER (Rd m) (kcell c k) 0)
    ∗ (bigSep Finset.univ (pos0 c) ∗ bigSep Finset.univ fun k : KC => reached ER (kcell c k) 0) ∗ ownToks c)
def G' (c : Dev nD) : sProp 𝕄 := iprop(∃ K, ghost m K c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : KC => Φ (kcell c k) := by
    unfold exCells; rw [bigSep_map, bigSep_univ_prod]; rfl
  have hT : bigSep exToks (fun x => (dutyTok ER x.1 x.2.1 x.2.2 : sProp 𝕄)) = bigSep Finset.univ fun c : Dev nD => ownToks c := by
    unfold exToks; rw [bigSep_map, bigSep_univ_prod, bigSep_univ_prod]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G pos0; simp only [bigSep_sep']
  isplitl [Hst']; · iexact Hst'
  isplitl [Hat' Hr']
  · isplitl [Hat'] <;> iassumption
  iexact Htok'

/-! ## Opening every cell -/

theorem ownSems_eq (c : Dev nD) : (Pipeline.ownSems0 (Ix := Unit) (Name := ℕ) (U := UU) (Lvl := ℕ) (Val := Elt F) (τ := τ) osem c : sProp 𝕄)
    = iprop((wZero c 0 ∗ wZero c 1) ∗ bigSep Finset.univ fun ka : Fin 4 × Fin 8 => zero c (some ka)) := by
  unfold Pipeline.ownSems0
  rw [bigSep_univ_sum, bigSep_fin_two]; rfl
theorem unscopedSems_eq (c : Dev nD) : (unscopedSems0 c : sProp 𝕄) = zero c none := by
  unfold unscopedSems0; rw [bigSep_eq_bigSepL_of_eq [SemLoc.reg barS] (by decide) (by decide)]; rfl
theorem zeros_eq (c : Dev nD) : bigSep Finset.univ (zero (F := F) c) = iprop(zero c none ∗ bigSep Finset.univ fun ka : Fin 4 × Fin 8 => zero c (some ka)) := by
  rw [bigSep_univ_at (zero c) none, show (Finset.univ.erase none : Finset KC) = Finset.univ.map Function.Embedding.some by decide, bigSep_map]; rfl

/-- A device's cells as opened, and what comes with them. -/
def opened (c : Dev nD) : sProp 𝕄 :=
  iprop((bigSep Finset.univ fun k : KC => iprop(∃ κ : ℕ, cellInv ER (Rd m) κ (kcell c k)))
    ∗ (bigSep Finset.univ fun k : KC => reached ER (kcell c k) 0) ∗ ownToks c ∗ bigSep Finset.univ (pos0 c) ∗ (wZero c 0 ∗ wZero c 1))

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> opened m c := by
  rw [ownSems_eq, unscopedSems_eq]
  unfold G opened
  iintro ⟨⟨Hw, Hk⟩, Hn, Hst, ⟨Hat, Hr⟩, Htok⟩
  imod (show iprop(bigSep Finset.univ (zero c) ∗ bigSep Finset.univ fun k : KC => roundState ER (Rd m) (kcell c k) 0)
      ⊢ (|={Set.univ}=> bigSep Finset.univ fun k : KC => iprop(∃ κ : ℕ, cellInv ER (Rd m) κ (kcell c k)) : sProp 𝕄) from by
        rw [← bigSep_sep']
        exact (bigSep_mono fun k _ => (Rounds.body_intro ER (Rd m) (kcell c k)).trans inv_alloc).trans (bigSep_fupd _ _)) $$ [Hn Hk Hst] with Hinv
  · isplitl [Hn Hk]
    · rw [zeros_eq]; isplitl [Hn] <;> iassumption
    iexact Hst
  imodintro
  isplitl [Hinv]; · iexact Hinv
  isplitl [Hr]; · iexact Hr
  isplitl [Htok]; · iexact Htok
  isplitl [Hat] <;> iassumption

/-! ## The tokens, from the cells' devices to the devices that pay -/

/-- The tokens minted beyond need are let go. -/
theorem own_toks (c : Dev nD) : (ownToks c : sProp 𝕄) ⊢ iprop((bigSep Finset.univ fun d : Fin 8 => dutyTok ER (kcell c none) 0 d)
    ∗ (bigSep Finset.univ fun a : Fin 8 => dutyTok ER (kcell c (some (0, a))) 0 0) ∗ (bigSep Finset.univ fun a : Fin 8 => dutyTok ER (kcell c (some (1, a))) 0 0)
    ∗ (bigSep Finset.univ fun a : Fin 8 => dutyTok ER (kcell c (some (2, a))) 0 0) ∗ bigSep Finset.univ fun a : Fin 8 => dutyTok ER (kcell c (some (3, a))) 0 0) := by
  have h (k : Fin 4) : (bigSep Finset.univ fun a : Fin 8 => bigSep Finset.univ fun d : Fin 8 => (dutyTok ER (kcell c (some (k, a))) 0 d : sProp 𝕄))
      ⊢ bigSep Finset.univ fun a : Fin 8 => dutyTok ER (kcell c (some (k, a))) 0 0 :=
    bigSep_mono fun a _ => bigSep_elim (Φ := fun d : Fin 8 => (dutyTok ER (kcell c (some (k, a))) 0 d : sProp 𝕄)) (Finset.mem_univ 0)
  unfold ownToks
  rw [bigSep_cells]
  iintro ⟨Hn, H0, H1, H2, H3⟩
  isplitl [Hn]; · iexact Hn
  isplitl [H0]; · iapply (h 0); iexact H0
  isplitl [H1]; · iapply (h 1); iexact H1
  isplitl [H2]; · iapply (h 2); iexact H2
  iapply (h 3); iexact H3

/-- Seen from the other end: of the cells indexed by a device, each device's own, against the cells of every device indexed by it. -/
theorem turned (Φ : Dev nD → Fin 8 → sProp 𝕄) : (bigSep Finset.univ fun c : Dev nD => bigSep Finset.univ fun d : Fin 8 => Φ c d)
    ⊢ bigSep Finset.univ fun c : Dev nD => bigSep Finset.univ fun r : Fin 7 => Φ (peer c (r.val + 1)) c := by
  have h (c : Dev nD) : (bigSep Finset.univ fun d : Fin 8 => Φ d c) ⊢ bigSep Finset.univ fun r : Fin 7 => Φ (peer c (r.val + 1)) c := by
    rw [bigSep_around c fun d : Fin 8 => Φ d c]
    iintro ⟨-, H⟩; iexact H
  rw [← bigSep_univ_prod fun x : Dev nD × Fin 8 => Φ x.1 x.2, bigSep_univ_equiv (Equiv.prodComm (Fin 8) (Dev nD)) (fun x : Dev nD × Fin 8 => Φ x.1 x.2), bigSep_univ_prod]
  exact bigSep_mono fun c _ => h c
theorem kept (Φ : Dev nD → Fin 8 → sProp 𝕄) : (bigSep Finset.univ fun c : Dev nD => bigSep Finset.univ fun d : Fin 8 => Φ c d)
    ⊢ bigSep Finset.univ fun c : Dev nD => bigSep Finset.univ fun a : Fin 7 => Φ c a.castSucc :=
  have h (c : Dev nD) : (bigSep Finset.univ fun d : Fin 8 => Φ c d) ⊢ bigSep Finset.univ fun a : Fin 7 => Φ c a.castSucc := by
    rw [bigSep_last fun d : Fin 8 => Φ c d]
    iintro ⟨-, H⟩; iexact H
  bigSep_mono fun c _ => h c

theorem payToks_eq : (bigSep Finset.univ fun c : Dev nD => (payToks c : sProp 𝕄)) = iprop(
    (bigSep Finset.univ fun c : Dev nD => bigSep Finset.univ fun r : Fin 7 => dutyTok ER (kcell (peer c (r.val + 1)) none) 0 c)
    ∗ (bigSep Finset.univ fun c : Dev nD => bigSep Finset.univ fun a : Fin 7 => dutyTok ER (kcell c (some (0, a.castSucc))) 0 0)
    ∗ (bigSep Finset.univ fun c : Dev nD => bigSep Finset.univ fun a : Fin 7 => dutyTok ER (kcell c (some (2, a.castSucc))) 0 0)
    ∗ (bigSep Finset.univ fun c : Dev nD => bigSep Finset.univ fun r : Fin 7 => dutyTok ER (kcell (peer c (r.val + 1)) (some (1, c))) 0 0)
    ∗ (bigSep Finset.univ fun c : Dev nD => bigSep Finset.univ fun r : Fin 7 => dutyTok ER (kcell (peer c (r.val + 1)) (some (3, c))) 0 0)) := by
  unfold payToks sendToks
  simp only [bigSep_sep']
  rfl

theorem toks_dealt : (bigSep Finset.univ fun c : Dev nD => (ownToks c : sProp 𝕄)) ⊢ bigSep Finset.univ fun c : Dev nD => payToks c := by
  rw [payToks_eq]
  iintro H
  ihave H := (show (bigSep Finset.univ fun c : Dev nD => (ownToks c : sProp 𝕄)) ⊢ _ from bigSep_mono fun c _ => own_toks c) $$ H
  ihave H := (Entails.of_eq (by rw [bigSep_sep', bigSep_sep', bigSep_sep', bigSep_sep'])) $$ H
  icases H with ⟨Hn, H0, H1, H2, H3⟩
  isplitl [Hn]; · iapply (turned fun c d => dutyTok ER (kcell c none) 0 d); iexact Hn
  isplitl [H0]; · iapply (kept fun c a => dutyTok ER (kcell c (some (0, a))) 0 0); iexact H0
  isplitl [H2]; · iapply (kept fun c a => dutyTok ER (kcell c (some (2, a))) 0 0); iexact H2
  isplitl [H1]; · iapply (turned fun c a => dutyTok ER (kcell c (some (1, a))) 0 0); iexact H1
  iapply (turned fun c a => dutyTok ER (kcell c (some (3, a))) 0 0); iexact H3

/-- What every device holds alike. -/
def records (K : Dev nD × KC → ℕ) : sProp 𝕄 :=
  iprop((bigSep Finset.univ fun ck : Dev nD × KC => cellInv ER (Rd m) (K ck) (kcell ck.1 ck.2))
    ∗ bigSep Finset.univ fun ck : Dev nD × KC => reached ER (kcell ck.1 ck.2) 0)
instance records_persistent (K : Dev nD × KC → ℕ) : BI.Persistent (records m K) := by unfold records; infer_instance
/-- What is each device's own. -/
def mine (c : Dev nD) : sProp 𝕄 := iprop(payToks c ∗ bigSep Finset.univ (pos0 c) ∗ (wZero c 0 ∗ wZero c 1))

theorem ghost_intro (K : Dev nD × KC → ℕ) (c : Dev nD) : iprop(records m K ∗ mine c) ⊢ G' m c := by
  unfold records mine G' ghost
  iintro ⟨#HR, Ht, Hp, Hz⟩
  iexists K
  isplitr; · iexact HR
  isplitl [Hp]; · iexact Hp
  isplitl [Ht] <;> iassumption

theorem regroup : (bigSep Finset.univ fun c : Dev nD => opened m c) ⊢ bigSep Finset.univ (G' m) := by
  unfold opened
  rw [bigSep_sep', bigSep_sep', bigSep_sep', bigSep_sep', ← bigSep_univ_prod (fun ck : Dev nD × KC => iprop(∃ κ : ℕ, cellInv ER (Rd m) κ (kcell ck.1 ck.2))),
    ← bigSep_univ_prod (fun ck : Dev nD × KC => (reached ER (kcell ck.1 ck.2) 0 : sProp 𝕄))]
  iintro ⟨HI, #HR, Htok, Hown⟩
  ihave HK := (BI.bigSep_exists_pi Finset.univ (fun (ck : Dev nD × KC) (κ : ℕ) => (cellInv ER (Rd m) κ (kcell ck.1 ck.2) : sProp 𝕄))) $$ HI
  icases HK with ⟨%K, #HI⟩
  ihave Htk := (toks_dealt (F := F)) $$ Htok
  iapply (bigSep_with_persistent (R := records m K) fun c _ => ghost_intro m K c)
  isplitr
  · unfold records; isplitl; · iexact HI
    iexact HR
  · iapply (Entails.of_eq (show iprop((bigSep Finset.univ fun c : Dev nD => payToks c) ∗ (bigSep Finset.univ fun c : Dev nD => bigSep Finset.univ (pos0 c))
        ∗ bigSep Finset.univ fun c : Dev nD => iprop(wZero c 0 ∗ wZero c 1)) = bigSep Finset.univ (mine (F := F)) by rw [← bigSep_sep', ← bigSep_sep']; rfl))
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem kcell_iff (c c' : Dev nD) (k k' : KC) : (kcell c k = kcell c' k') ↔ (c = c' ∧ k = k') := ⟨kcell_inj, fun h => by rw [h.1, h.2]⟩

theorem csem_iff (k k' : KC) : (csem k = csem k') ↔ k = k' := ⟨csem_inj, fun h => by rw [h]⟩

theorem oweS_at (d : Dev nD) (g : GSem nD τ sig) : ∀ j, oweS d j g () = ∑ i ∈ Finset.range j,
    ((if g = kcell (peer d (7 - i)) (some (3, d)) then Ns else 0) + if g = kcell (peer d (7 - i)) (some (1, d)) then Nd else 0)
  | 0 => rfl
  | j + 1 => by
    unfold oweS
    rw [Pi.add_apply, Finsupp.add_apply, Pi.add_apply, Finsupp.add_apply, oweS_at d g j, tallyAt_apply, tallyAt_apply, Finset.sum_range_succ, Nat.add_assoc]
    simp only [_root_.and_true]
theorem oweB_at (d : Dev nD) (g : GSem nD τ sig) : ∀ j, oweB d j g () = oweS d 7 g () + ∑ i ∈ Finset.range j, if g = kcell (peer d (7 - i)) none then 1 else 0
  | 0 => (Nat.add_zero _).symm
  | j + 1 => by
    unfold oweB
    rw [Pi.add_apply, Finsupp.add_apply, oweB_at d g j, tallyAt_apply, Finset.sum_range_succ, Nat.add_assoc]
    simp only [_root_.and_true]

theorem owed_bar (c : Dev nD) : ∑ d : Dev nD, oweB d 7 (kcell c none) () = 7 := by
  simp only [oweB_at, oweS_at, kcell_iff, csem_iff, reduceCtorEq, _root_.and_false, if_false, _root_.and_true, Nat.add_zero, Finset.sum_const_zero, Nat.zero_add]
  revert c; decide
theorem owed_recv (c : Dev nD) (p : Fin 8) (hp : p ≠ c) (k : Fin 4) (hk : k = 1 ∨ k = 3) :
    ∑ d : Dev nD, oweB d 7 (kcell c (some (k, p))) () = if k = 1 then Nd else Ns := by
  have key : ∀ (c p : Fin 8), p ≠ c → (∑ d : Fin 8, ∑ i ∈ Finset.range 7, if c = peer d (7 - i) ∧ p = d then 1 else 0) = 1 := by decide
  have scale (n : ℕ) : (∑ d : Fin 8, ∑ i ∈ Finset.range 7, if c = peer d (7 - i) ∧ p = d then n else 0) = n := by
    rw [show n = n * 1 from (Nat.mul_one n).symm]
    conv_rhs => rw [← key c p hp]
    simp only [Finset.mul_sum, mul_ite, Nat.mul_one, Nat.mul_zero]
  rcases hk with rfl | rfl
  · rw [if_pos rfl]
    refine Eq.trans ?_ (scale Nd)
    refine Finset.sum_congr rfl fun d _ => ?_
    simp only [oweB_at, oweS_at, kcell_iff, csem_iff, reduceCtorEq, _root_.and_false, if_false, Option.some.injEq, Prod.mk.injEq, _root_.true_and, _root_.and_true, Finset.sum_const_zero, Nat.add_zero,
      show ((1 : Fin 4) = 3) = False from eq_false (by decide), _root_.false_and, Nat.zero_add]
  · rw [if_neg (by decide)]
    refine Eq.trans ?_ (scale Ns)
    refine Finset.sum_congr rfl fun d _ => ?_
    simp only [oweB_at, oweS_at, kcell_iff, csem_iff, reduceCtorEq, _root_.and_false, if_false, Option.some.injEq, Prod.mk.injEq, _root_.true_and, _root_.and_true, Finset.sum_const_zero, Nat.add_zero,
      show ((3 : Fin 4) = 1) = False from eq_false (by decide), _root_.false_and]

theorem launch_eq (c : Dev nD) (k : KC) (n : ℕ) (h : ∑ d : Dev nD, oweB d 7 (kcell c k) () = n) :
    tallyOn (kcell c k) (launchCredit (Pipeline.owing fun d : Dev nD => oweB d 7) 0 (kcell c k)) = (tallyAt (kcell c k) () n : CellTallies nD τ sig Unit) := by
  unfold tallyAt; refine congrArg _ (Finsupp.ext fun u => ?_); cases u
  rw [Pipeline.launchCredit_owing, Finsupp.single_eq_same, h]

theorem csem_injective : Function.Injective csem := fun _ _ h => csem_inj h

theorem creds (c : Dev nD) : (Pipeline.launchCred (fun d : Dev nD => oweB d 7) c : sProp 𝕄) ⊢ allCred c := by
  have h0 : (Pipeline.launchCred (fun d : Dev nD => oweB d 7) c : sProp 𝕄)
      ⊢ bigSep Finset.univ fun k : KC => cred (tallyOn (kcell c k) (launchCredit (Pipeline.owing fun d : Dev nD => oweB d 7) 0 (kcell c k))) := by
    unfold Pipeline.launchCred
    exact (bigSep_subset (Finset.subset_univ (Finset.univ.map ⟨csem, csem_injective⟩))).trans (Entails.of_eq (bigSep_map _))
  refine h0.trans ((cellsBy_out c _).trans ?_)
  unfold cellsBy allCred barCred recvCred
  have hr (r : Fin 7) (k : Fin 4) (hk : k = 1 ∨ k = 3) := launch_eq c (some (k, peer c (r.val + 1))) _ (owed_recv c (peer c (r.val + 1)) (peer_ne c r) k hk)
  have e1 (r : Fin 7) := hr r 1 (.inl rfl)
  have e3 (r : Fin 7) := hr r 3 (.inr rfl)
  have en := launch_eq c none _ (owed_bar c)
  simp only [e1, e3, en, if_true, show ((3 : Fin 4) = 1) = False from eq_false (by decide), if_false]
  iintro ⟨Hn, -, -, Hr⟩
  isplitl [Hn] <;> iassumption

end Cert.KernelIdeal.Pf
-- ==== Proof.Run.lean ====
/-
The run: every fair execution ends with each device's result at the computed contents, the arguments kept and the counters at zero.
-/
module

public import proofs.«01_k».proof.Proof.Start
public import Idealize.ShloMosaic.Lib.Pipeline.CollectiveSegs

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch asks -/

theorem start_intro (c : Dev nD) :
    iprop(Pipeline.unscopedRestP Pipeline.Prefetch.none cfg0.spec c (fun b => m ((c : Thread nD τ).loc b)) ∗ levAts L lv
        ∗ Pipeline.launchCred (fun d : Dev nD => oweB d 7) c ∗ prngReg c (ρ c) ∗ G' m c)
      ⊢ |={Set.univ}=> iprop(entry m c ∗ emp) := by
  rw [Pipeline.unscopedRestP_none, unscopedRest0_eq]
  unfold entry G'
  iintro ⟨Hg, Hlev, Hcr, -, HG⟩
  ihave Hc := (creds (F := F) c) $$ Hcr
  imodintro
  isplitl
  · isplitl [HG]; · iexact HG
    isplitl [Hlev]; · iexact Hlev
    isplitl [Hc]; · iexact Hc
    unfold gAll gs
    iexact Hg
  · iempintro

theorem phi0_intro (c : Dev nD) :
    iprop(entry m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop((unscopedSems0 c ∗ gAll m c) ∗ Pipeline.ownSems0 osem c ∗ Pipeline.scopedRest cfg0.spec c) := by
  rw [show (dats m ρ 0 c).Φ (Fin.last cfg0.N) = Φ₁ m c from rfl, ownSems_eq, unscopedSems_eq]
  unfold Φ₁
  rw [zeros_eq]
  iintro ⟨⟨Hb, Hk⟩, Hw, Hg, Hr⟩
  isplitl [Hb Hg]
  · isplitl [Hb] <;> iassumption
  isplitl [Hw Hk]
  · isplitl [Hw] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_local c _ (by fin_cases w <;> fin_cases s <;> decide) _ (by
      rcases t with ⟨_ | _, ht⟩
      · exact Or.inl ⟨7, rfl⟩
      · exact Or.inr ⟨0, rfl⟩)

/-! ## The run -/

def finalA (c : Dev nD) (w : Fin cfg0.W) : Buf (Elt F) ((cfg0.win w).arr.view.loc (c : Thread nD τ)) := (dats m ρ 0 c).arrAt w cfg0.N

/-- What a device's memory holds at the end, the windows' arrays aside: its barrier at zero and its weights kept. -/
def endsAt (c : Dev nD) (s : MemSt nD τ sig (Elt F)) : Prop :=
  (∀ sm : SemLoc sig, sm.isScoped .tc = false → s.sem ((c.tc : Thread nD τ), sm) = 0)
    ∧ s.mem ((c : Thread nD τ).loc main_arg1) = gs m c

theorem endsAt_read (c : Dev nD) (s' : Phys nD τ sig (Elt F)) :
    (iprop((unscopedSems0 c ∗ gAll m c) ∗ emp ∗ SI s') : sProp 𝕄) ⊢ |={Set.univ}=> iprop(⌜endsAt m c s'.mem⌝ ∗ SI s') := by
  unfold gAll
  iintro ⟨⟨Hu, Hg⟩, -, HSI⟩
  icombine HSI Hg gives %h0
  imod (Pipeline.unscopedSems0_read (X := unscopedSems0 c) (c := c) fupd_intro s') $$ [Hu HSI] with ⟨%hz, HSI⟩
  · isplitl [Hu] <;> iassumption
  imodintro
  isplitr; · ipureintro; exact ⟨hz, Buf.eq_of_forall_mem_univ h0⟩
  iexact HSI

theorem own_ex : (BI.own ((embR : Emb (UB × Counters) 𝕄) (initOf exCells exToks, 1)) : sProp 𝕄) = BI.own (ER (initOf exCells exToks)) := rfl

set_option maxRecDepth 64000 in
theorem run_main : θ_run defs (onTc (τ := τ) (main (F := F))) (s₀ m ρ)
    (fun r => (∀ c : Dev nD, (∀ w : Fin cfg0.W, r.2.mem ((cfg0.win w).arr.view.loc (c : Thread nD τ)) = finalA m ρ c w)
      ∧ r.2.mem ((c : Thread nD τ).loc main_arg1) = gs m c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d : Dev nD => oweB d 7) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (Entails.of_eq (own_ex (F := F))) $$ HX
      imod (fund_ex m) $$ HX with HG
      imodintro
      isplitl [HP] <;> iassumption)
    (hglob := glob m)
    (hA := fun _ _ => rfl) (hpf := fun _ k => k.elim0)
    (X := entry m) (Y := fun c => iprop(unscopedSems0 c ∗ gAll m c)) (Z := fun _ => iprop(emp))
    (hX := start_intro m ρ) (hin := phi0_intro m ρ) (hout := phi1_exit m ρ)
    (QY := endsAt m) (hY := endsAt_read m)
    (hQ := fun _ h hs => ⟨fun c => ⟨(h c).1, (h c).2.2.2⟩, sem_eq_zero hs fun c => (h c).2.2.1⟩)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_o (c : Dev nD) : (win0_1.blk (0 : Fin 1)).view.read (Elt F) (finalA m ρ c (1 : Fin 2)) = outAt m c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The result window's block is the whole result array. -/
theorem blk_o (f : main_v1.ty.Contents (Elt F)) : (win0_1.blk (0 : Fin 1)).view.read (Elt F) f = f :=
  Memref.read_access_unit_zero (Elt F) main_v1 (off := fun a => (win0_1.index (0 : Fin 1)) a * main_v1.ty.shape.size a)
    (funext fun a => by fin_cases a <;> decide) (fun a => by fin_cases a <;> decide) f
theorem blk_x (f : main_arg0.ty.Contents (Elt F)) : (win0_0.blk (0 : Fin 1)).view.read (Elt F) f = f :=
  Memref.read_access_unit_zero (Elt F) main_arg0 (off := fun a => (win0_0.index (0 : Fin 1)) a * main_arg0.ty.shape.size a)
    (funext fun a => by fin_cases a <;> decide) (fun a => by fin_cases a <;> decide) f

/-- The program's run: each device's result, its arguments kept, every counter at zero. -/
theorem run : θ_run defs (onTc (τ := τ) (main (F := F))) (s₀ m ρ)
    (fun r => (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨((h.1 c).1 (1 : Fin 2)).trans ((blk_o _).symm.trans (finalA_o m ρ c)),
    ((h.1 c).1 (0 : Fin 2)).trans (finalA_x m ρ c), (h.1 c).2⟩, h.2⟩) (run_main m ρ)

/-- The run keeps the arguments and leaves every counter at zero. -/
theorem keeps : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => (h.1 c).2, h.2⟩) (run m ρ)

end Cert.KernelIdeal.Pf
-- ==== Proof.Frames.lean ====
/-
The frames: the kernel's at the extended reals and, the two programs being the same text, at the bits; the reference's.
-/
module

public import proofs.«01_k».proof.Defs
public import proofs.«01_k».proof.Proof.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.ReferenceIdeal.Run
public import Idealize.ShloMosaic.Lib.Tactic
public import Idealize.ShloMosaic.Adequacy
public import Idealize.ShloMosaic.Init

@[expose] public section
noncomputable section
namespace Cert.KernelIdeal.Pf
open Idealize.ShloMosaic Idealize.ShloMosaic.TcCoe
open Idealize.SL.Sem

theorem frameI : Cert.quiescent_KernelIdeal (hKernelIdeal := Cert.KernelIdeal.Gen.facts) := fun m g _ => keeps m g

/-! The two printed programs are one program. -/

set_option maxRecDepth 32000 in
theorem bodyK (t : Fin Cert.Kernel.grid0.N) (s : (w : Fin 2) → Fin (Cert.Kernel.win0 w).nbuf) :
    Cert.Kernel.defs₀ (F := Bits) .tc 0 (t, s) = Cert.KernelIdeal.defs₀ (F := Bits) .tc 0 (t, s) := by chain_rfl

theorem defs₀K : Cert.Kernel.defs₀ (F := Bits) = Cert.KernelIdeal.defs₀ (F := Bits) := by
  funext κ
  cases κ with
  | tc =>
    funext l
    match l with
    | 0 => funext ⟨t, s⟩; exact bodyK t s
  | scScalar _ => rfl
  | scVector _ _ => rfl
theorem defsK : Cert.Kernel.defs (F := Bits) = Cert.KernelIdeal.defs (F := Bits) := by
  unfold Cert.Kernel.defs
  rw [defs₀K]
  rfl
theorem frameK : Cert.quiescent_Kernel (hKernel := Cert.Kernel.Gen.facts) := fun m g _ => by
  rw [defsK]
  exact keeps (F := Bits) m g

theorem frameR : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

end Cert.KernelIdeal.Pf
-- ==== Proof.Quant.lean ====
/-
The quantiser over the extended reals: a block's peak, its step, a clipped whole number; the byte keeps it exactly.
-/
module

public import Idealize.ShloMosaic.PureOps.Ideal.Laws
public import Idealize.ShloMosaic.Lib.ValueIdx

@[expose] public section

noncomputable section

namespace Cert.Quant

open Idealize.ShloMosaic

/-- The constants, as the two programs print them. -/
abbrev negInf : EReal := Ideal.ofBits .f32 0xFF800000#32
abbrev tiny : EReal := Ideal.ofBits .f32 0x0DA24260#32
abbrev top127 : EReal := Ideal.ofBits .f32 0x42FE0000#32
abbrev bot127 : EReal := Ideal.ofBits .f32 0xC2FE0000#32

theorem top127_eq : top127 = ((127 : ℝ) : EReal) := by
  simp [Ideal.ofBits, Ideal.ieee, -EReal.coe_mul]; norm_num
theorem bot127_eq : bot127 = ((-127 : ℝ) : EReal) := by
  simp [Ideal.ofBits, Ideal.ieee, -EReal.coe_mul, -EReal.coe_neg]; norm_num

/-- A block of 512 rows and 1024 columns. -/
abbrev Blk := Fin 512 → Fin 1024 → EReal

/-- The largest absolute value. -/
def peak (Z : Blk) : EReal := Finset.univ.fold max negInf fun p : Fin 512 × Fin 1024 => max (Z p.1 p.2) (-(Z p.1 p.2))
/-- The quantiser's step. -/
def stepOf (Z : Blk) : EReal := Ideal.div (max (peak Z) tiny) top127
/-- Rounded to the nearest whole number, ties to even, and clipped to the symmetric range of a byte. -/
def clipped (z : EReal) : EReal := min top127 (max bot127 (Ideal.liftRound Ideal.roundHalfEven z))
/-- An entry quantised and restored. -/
def restored (Z : Blk) (r : Fin 512) (c : Fin 1024) : EReal := clipped (Ideal.div (Z r c) (stepOf Z)) * stepOf Z

/-- Two maxima over families with the same values are equal. -/
theorem fold_max_eq {ι κ : Type} (s : Finset ι) (t : Finset κ) (b : EReal) (f : ι → EReal) (g : κ → EReal)
    (h1 : ∀ i ∈ s, ∃ k ∈ t, f i = g k) (h2 : ∀ k ∈ t, ∃ i ∈ s, g k = f i) : s.fold max b f = t.fold max b g := by
  refine eq_of_forall_ge_iff fun x => ?_
  rw [Finset.fold_max_le, Finset.fold_max_le]
  refine and_congr_right fun _ => ⟨fun h k hk => ?_, fun h i hi => ?_⟩
  · obtain ⟨i, hi, e⟩ := h2 k hk; rw [e]; exact h i hi
  · obtain ⟨k, hk, e⟩ := h1 i hi; rw [e]; exact h k hk

/-- What the clipping leaves is a whole number between −127 and 127. -/
theorem clipped_whole (z : EReal) : ∃ n : ℤ, -127 ≤ n ∧ n ≤ 127 ∧ clipped z = ((n : ℝ) : EReal) := by
  unfold clipped
  rw [top127_eq, bot127_eq]
  induction z with
  | bot => exact ⟨-127, by decide, by decide, by
      rw [Ideal.liftRound_bot, max_eq_left bot_le, min_eq_right (by exact_mod_cast (by norm_num : (-127 : ℝ) ≤ 127))]; norm_num⟩
  | top => exact ⟨127, by decide, by decide, by
      rw [Ideal.liftRound_top, max_eq_right le_top, min_eq_left le_top]; norm_num⟩
  | coe r =>
    refine ⟨min 127 (max (-127) (Ideal.roundHalfEven r)), by omega, by omega, ?_⟩
    rw [Ideal.liftRound_coe]
    push_cast
    rfl

/-- So the byte it is stored as gives it back. -/
theorem byte_clipped (z : EReal) : (((Ideal.fptosi 8 (clipped z)).toInt : ℝ) : EReal) = clipped z := by
  obtain ⟨n, h1, h2, e⟩ := clipped_whole z
  rw [e]
  congr 2
  unfold Ideal.fptosi
  rw [Ideal.toIntClamped_coe, Int.floor_intCast, Int.ceil_intCast, ite_self]
  rw [BitVec.toInt_ofInt]
  have : max (-((2 ^ (8 - 1) : ℕ) : ℤ)) (min (((2 ^ (8 - 1) : ℕ) : ℤ) - 1) n) = n := by norm_num; omega
  rw [this]
  exact Int.bmod_eq_of_le (by norm_num; omega) (by norm_num; omega)

end Cert.Quant
-- ==== Proof.RefValue.lean ====
/-
The reference's result read entry by entry: the entry of the product, quantised and restored within its block.
-/
module

public import proofs.«01_k».proof.Proof.Quant
public import proofs.«01_k».proof.Proof.Gen.ReferenceIdeal
public import Idealize.ShloMosaic.Lib.Pipeline.Value
public import Idealize.ShloMosaic.Lib.IdealHost
public import Idealize.ShloMosaic.Lib.StackMember
public import Idealize.ShloMosaic.PureOps

@[expose] public section

noncomputable section

namespace Cert.ReferenceIdeal.Rf

open Cert.ReferenceIdeal Cert.ReferenceIdeal.Gen Cert.Quant
open Idealize.ShloMosaic Idealize.ShloMosaic.ValueIdx

/-- An entry of the product. -/
def prod (X : FVec Ideal S4096x4096 .f32) (W : FVec Ideal S4096x8192 .f32) (r : Fin 4096) (c : Fin 8192) : EReal :=
  ∑ k : Fin 4096, X (ix2 r k) * W (ix2 k c)

/-- The product's block of rows `a` and columns `b`. -/
def blockOf (X : FVec Ideal S4096x4096 .f32) (W : FVec Ideal S4096x8192 .f32) (a b : Fin 8) : Blk :=
  fun r c => prod X W ⟨512 * a.val + r.val, by omega⟩ ⟨1024 * b.val + c.val, by omega⟩

/-- The product laid out in blocks. -/
def yb (X : FVec Ideal S4096x4096 .f32) (W : FVec Ideal S4096x8192 .f32) : FVec Ideal S8x512x8x1024 .f32 :=
  shapeCast _ (Host.dotGeneral dot_S4096x4096_S4096x8192_S4096x8192_1_0_0_1_n_n none X W) shapeCasts_S4096x8192_S8x512x8x1024

/-- The steps of an array in blocks. -/
def sc (y : FVec Ideal S8x512x8x1024 .f32) : FVec Ideal S8x1x8x1 .f32 :=
  Host.divf (maximumf (broadcastInDim S8x1x8x1 ![0, 2] bcast_S8x8_S8x1x8x1_0_2 (Host.reduce FloatOps.maximumf (Host.absf y) (constant S_ .f32 0xFF800000#32) reducesTo_S8x512x8x1024_S8x8_d1_3 h_S_)) (broadcastInDim S8x1x8x1 ![] bcast_S_S8x1x8x1 (constant S_ .f32 0x0DA24260#32))) (broadcastInDim S8x1x8x1 ![] bcast_S_S8x1x8x1 (constant S_ .f32 0x42FE0000#32))

/-- The result of an array in blocks, still in blocks. -/
def qb (y : FVec Ideal S8x512x8x1024 .f32) : FVec Ideal S8x512x8x1024 .f32 :=
  mulf (minimumf (broadcastInDim S8x512x8x1024 ![] bcast_S_S8x512x8x1024 (id (constant S_ .f32 0x42FE0000#32))) (maximumf (broadcastInDim S8x512x8x1024 ![] bcast_S_S8x512x8x1024 (id (constant S_ .f32 0xC2FE0000#32))) (Host.roundeven (Host.divf y (broadcastInDim S8x512x8x1024 ![0, 1, 2, 3] bcast_S8x1x8x1_S8x512x8x1024_0_1_2_3 (sc y)))))) (broadcastInDim S8x512x8x1024 ![0, 1, 2, 3] bcast_S8x1x8x1_S8x512x8x1024_0_1_2_3 (sc y))

/-- The reference's result. -/
def out (X : FVec Ideal S4096x4096 .f32) (W : FVec Ideal S4096x8192 .f32) : FVec Ideal S4096x8192 .f32 :=
  shapeCast _ (qb (yb X W)) shapeCasts_S8x512x8x1024_S4096x8192

variable (X : FVec Ideal S4096x4096 .f32) (W : FVec Ideal S4096x8192 .f32)

theorem dot_apply (r : Fin 4096) (c : Fin 8192) :
    Host.dotGeneral dot_S4096x4096_S4096x8192_S4096x8192_1_0_0_1_n_n none X W (ix2 r c) = prod X W r c :=
  StackMember.dotGeneral_plain_apply none X W r c

theorem yb_apply (a : Fin 8) (r : Fin 512) (b : Fin 8) (c : Fin 1024) : yb X W (ix4 a r b c) = blockOf X W a b r c := by
  unfold yb blockOf
  rw [shapeCast_apply _ _ _ (ix2 (⟨512 * a.val + r.val, by omega⟩ : Fin 4096) (⟨1024 * b.val + c.val, by omega⟩ : Fin 8192))]
  · exact dot_apply X W _ _
  · rw [Shape.rowMajor_val_two, Shape.rowMajor_val_four]
    show (512 * a.val + r.val) * 8192 + (1024 * b.val + c.val) = ((a.val * 512 + r.val) * 8 + b.val) * 1024 + c.val
    omega

/-- Where a reduced entry comes from. -/
theorem drop_iff (a r b c) (a' b' : Fin 8) :
    reducesTo_S8x512x8x1024_S8x8_d1_3.drop (ix4 a r b c) = ix2 a' b' ↔ a = a' ∧ b = b' := by
  have h0 := reducesTo_S8x512x8x1024_S8x8_d1_3.drop_apply_val_of_eq (ix4 a r b c) 0 0 (by decide) (by decide)
  have h1 := reducesTo_S8x512x8x1024_S8x8_d1_3.drop_apply_val_of_eq (ix4 a r b c) 1 2 (by decide) (by decide)
  constructor
  · intro e
    rw [e] at h0 h1
    exact ⟨Fin.ext h0.symm, Fin.ext h1.symm⟩
  · rintro ⟨rfl, rfl⟩
    funext d
    match d with
    | ⟨0, _⟩ => exact Fin.ext h0
    | ⟨1, _⟩ => exact Fin.ext h1

/-- The reduction is each block's peak. -/
theorem reduce_apply (y : FVec Ideal S8x512x8x1024 .f32) (a b : Fin 8) :
    Host.reduce FloatOps.maximumf (Host.absf y) (constant S_ .f32 0xFF800000#32) reducesTo_S8x512x8x1024_S8x8_d1_3 h_S_ (ix2 a b)
      = peak fun r c => y (ix4 a r b c) := by
  rw [Host.reduce_eq_fold]
  refine fold_max_eq _ _ _ _ _ ?_ ?_
  · intro i hi
    have hi' := (Finset.mem_filter.mp hi).2
    rw [eq_ix4 i] at hi' ⊢
    obtain ⟨rfl, rfl⟩ := (drop_iff (i 0) (i 1) (i 2) (i 3) _ _).mp hi'
    exact ⟨((i 1 : Fin 512), (i 3 : Fin 1024)), Finset.mem_univ _, rfl⟩
  · rintro ⟨r, c⟩ _
    exact ⟨ix4 a r b c, Finset.mem_filter.mpr ⟨Finset.mem_univ _, (drop_iff _ _ _ _ _ _).mpr ⟨rfl, rfl⟩⟩, rfl⟩

/-- The step of a block whose peak is given. -/
theorem step_apply (z : FVec Ideal S8x8 .f32) (a b : Fin 8) :
    Host.divf (maximumf (broadcastInDim S8x1x8x1 ![0, 2] bcast_S8x8_S8x1x8x1_0_2 z) (broadcastInDim S8x1x8x1 ![] bcast_S_S8x1x8x1 (constant S_ .f32 0x0DA24260#32))) (broadcastInDim S8x1x8x1 ![] bcast_S_S8x1x8x1 (constant S_ .f32 0x42FE0000#32)) (ix4 a (0 : Fin 1) b (0 : Fin 1))
      = Ideal.div (max (z (ix2 a b)) tiny) top127 := by
  have e : broadcastInDim S8x1x8x1 ![0, 2] bcast_S8x8_S8x1x8x1_0_2 z (ix4 a (0 : Fin 1) b (0 : Fin 1)) = z (ix2 a b) := by
    refine broadcastInDim_apply _ _ _ _ _ ?_
    intro d
    match d with
    | ⟨0, _⟩ => rfl
    | ⟨1, _⟩ => rfl
  rw [← e]
  rfl

theorem sc_apply (y : FVec Ideal S8x512x8x1024 .f32) (a b : Fin 8) :
    sc y (ix4 a (0 : Fin 1) b (0 : Fin 1)) = stepOf fun r c => y (ix4 a r b c) := by
  unfold sc stepOf
  rw [step_apply, reduce_apply]

theorem qb_apply (y : FVec Ideal S8x512x8x1024 .f32) (a : Fin 8) (r : Fin 512) (b : Fin 8) (c : Fin 1024) :
    qb y (ix4 a r b c) = restored (fun r c => y (ix4 a r b c)) r c := by
  have e : broadcastInDim S8x512x8x1024 ![0, 1, 2, 3] bcast_S8x1x8x1_S8x512x8x1024_0_1_2_3 (sc y) (ix4 a r b c)
      = stepOf fun r c => y (ix4 a r b c) := by
    rw [← sc_apply y a b, broadcastInDim_apply]
    intro d
    match d with
    | ⟨0, _⟩ => rfl
    | ⟨1, _⟩ => rfl
    | ⟨2, _⟩ => rfl
    | ⟨3, _⟩ => rfl
  unfold restored clipped
  rw [← e]
  rfl

/-- The reference's entry. -/
theorem out_apply (a : Fin 8) (r : Fin 512) (b : Fin 8) (c : Fin 1024) (R : Fin 4096) (C : Fin 8192)
    (hR : R.val = 512 * a.val + r.val) (hC : C.val = 1024 * b.val + c.val) :
    out X W (ix2 R C) = restored (blockOf X W a b) r c := by
  unfold out
  rw [shapeCast_apply _ _ _ (ix4 a r b c), qb_apply]
  · congr 1
    funext r c
    exact yb_apply X W a r b c
  · rw [Shape.rowMajor_val_two, Shape.rowMajor_val_four]
    show ((a.val * 512 + r.val) * 8 + b.val) * 1024 + c.val = R.val * 8192 + C.val
    omega

end Cert.ReferenceIdeal.Rf
-- ==== Proof.KerValue.lean ====
/-
The kernel's result read entry by entry: the same entry of the product, quantised and restored within its block.
-/
module

public import proofs.«01_k».proof.Proof.Quant
public import proofs.«01_k».proof.Proof.RefValue
public import proofs.«01_k».proof.Proof.Run
public import Idealize.ShloMosaic.Lib.MatmulPlain
public import Idealize.ShloMosaic.Lib.Layout
public import Idealize.ShloMosaic.Lib.Pipeline.Value

@[expose] public section

noncomputable section

namespace Cert.KernelIdeal.Pf

open Cert.KernelIdeal Cert.KernelIdeal.Gen Cert.Quant
open Idealize.ShloMosaic Idealize.ShloMosaic.TcCoe Idealize.ShloMosaic.ValueIdx

/-! ## One block quantised and restored -/

/-- Where an entry of the block stands in its three-axis form. -/
theorem cast3_apply {α : Type} (v : S512x1024.Idx → α) (r : Fin 512) (c : Fin 1024) :
    shapeCast S1x512x1024 v shapeCasts_S512x1024_S1x512x1024 (ix3 (0 : Fin 1) r c) = v (ix2 r c) := by
  rw [shapeCast_apply _ _ _ (ix2 r c)]
  rw [Shape.rowMajor_val_two, Shape.rowMajor_val_three]
  show r.val * 1024 + c.val = (0 * 512 + r.val) * 1024 + c.val
  omega

/-- A reduction to one entry takes every entry. -/
theorem one_idx (i j : S1.Idx) : i = j := by
  rw [eq_ix1 i, eq_ix1 j]
  exact congrArg ix1 (Subsingleton.elim (α := Fin 1) _ _)

theorem maxAll_apply (y : FVec Ideal S512x1024 .f32) (j : S1.Idx) :
    multiReduction .maximumf [1, 2] S1 (shapeCast S1x512x1024 (absf y) shapeCasts_S512x1024_S1x512x1024) 0xFF800000#32 reduces_S1x512x1024_S1 (.inl rfl) rfl j
      = peak fun r c => y (ix2 r c) := by
  refine (multiReduction_maximumf_eq_fold _ _ _ _ _ _).trans ?_
  refine fold_max_eq _ _ _ _ _ ?_ ?_
  · intro i hi
    refine ⟨((i 1 : Fin 512), (i 2 : Fin 1024)), Finset.mem_univ _, ?_⟩
    have e : i = ix3 (0 : Fin 1) (i 1 : Fin 512) (i 2 : Fin 1024) := by
      conv_lhs => rw [eq_ix3 i]
      exact congrArg (fun t : Fin 1 => ix3 t (i 1 : Fin 512) (i 2 : Fin 1024)) (Subsingleton.elim (α := Fin 1) _ _)
    conv_lhs => rw [e]
    exact cast3_apply (absf y) _ _
  · rintro ⟨r, c⟩ _
    exact ⟨ix3 (0 : Fin 1) r c, Finset.mem_filter.mpr ⟨Finset.mem_univ _, one_idx _ _⟩, (cast3_apply (absf y) r c).symm⟩

/-- The kernel's step is the block's. -/
theorem pay3_eq (y : FVec Ideal S512x1024 .f32) : k0_pay3 (F := Ideal) y = stepOf fun r c => y (ix2 r c) := by
  have e : ∀ (z : FVec Ideal S1 .f32) (v : EReal) (hz : ∀ j, z j = v),
      (Scalar.divf (Scalar.maximumf (extractAt ![0, 0, 0] (shapeCast S1x1x1 z shapeCasts_S1_S1x1x1) inpos_S1x1x1_p0_0_0)
        (Scalar.ofBits .f32 0x0DA24260#32)) (Scalar.ofBits .f32 0x42FE0000#32) : Ideal .f32) = Ideal.div (max v tiny) top127 := by
    intro z v hz
    obtain rfl : z = fun _ => v := funext hz
    rfl
  unfold k0_pay3 stepOf
  exact e _ _ (maxAll_apply y)

theorem pay4_apply (y : FVec Ideal S512x1024 .f32) (r : Fin 512) (c : Fin 1024) :
    k0_pay4 (F := Ideal) y (ix3 (0 : Fin 1) r c) = Ideal.fptosi 8 (clipped (Ideal.div (y (ix2 r c)) (k0_pay3 (F := Ideal) y))) := by
  unfold k0_pay4
  exact cast3_apply _ r c

theorem pay50_apply (q : Vec Ideal S1x512x1024 .i8) (s : FVec Ideal S1x1 .f32) (r : Fin 512) (c : Fin 1024) :
    k0_pay50 (F := Ideal) q s (ix2 r c) = (((q (ix3 (0 : Fin 1) r c)).toInt : ℝ) : EReal) * s (ix2 (0 : Fin 1) (0 : Fin 1)) := by
  have e : shapeCast S512x1024 q shapeCasts_S1x512x1024_S512x1024 (ix2 r c) = q (ix3 (0 : Fin 1) r c) := by
    rw [shapeCast_apply _ _ _ (ix3 (0 : Fin 1) r c)]
    rw [Shape.rowMajor_val_two, Shape.rowMajor_val_three]
    show (0 * 512 + r.val) * 1024 + c.val = r.val * 1024 + c.val
    omega
  rw [← e]
  refine congrArg (fun t => (((shapeCast S512x1024 q shapeCasts_S1x512x1024_S512x1024 (ix2 r c)).toInt : ℝ) : EReal) * s t) ?_
  funext d
  match d with
  | ⟨0, _⟩ => rfl
  | ⟨1, _⟩ => rfl

/-- A block sent and restored. -/
theorem out_restored (y : FVec Ideal S512x1024 .f32) (s : FVec Ideal S1x1 .f32)
    (hs : s (ix2 (0 : Fin 1) (0 : Fin 1)) = k0_pay3 (F := Ideal) y) (r : Fin 512) (c : Fin 1024) :
    outVal (F := Ideal) (quantVal y) s (ix2 r c) = restored (fun r c => y (ix2 r c)) r c := by
  refine (pay50_apply _ s r c).trans ?_
  rw [show quantVal (F := Ideal) y (ix3 (0 : Fin 1) r c) = _ from pay4_apply y r c, byte_clipped, hs, pay3_eq]
  rfl

/-! ## One block of the product -/

theorem tile_apply (x : FVec Ideal S512x4096 .f32) (w : FVec Ideal S1x4096x512 .f32) (r : Fin 512) (c : Fin 512) :
    tileVal (F := Ideal) x w (ix2 r c) = ∑ k : Fin 4096, x (ix2 r k) * w (ix3 (0 : Fin 1) k c) := by
  have e : tileVal (F := Ideal) x w (ix2 r c) = matmul dot_S512x4096_S4096x512_S512x512_1_0_0_1_n_n none (shapeCast S512x4096 x shapeCasts_S512x4096_S512x4096)
      (shapeCast S4096x512 w shapeCasts_S1x4096x512_S4096x512) (constant S512x512 .f32 0x00000000#32) (ix2 r c) := by
    unfold tileVal k0_pay1
    exact shapeCast_apply _ _ _ _ rfl
  rw [e, matmul_zero_eq_dotGeneral]
  refine (StackMember.dotGeneral_plain_apply none _ _ r c).trans (Finset.sum_congr rfl fun k _ => ?_)
  rw [shapeCast_apply x _ _ (ix2 r k) rfl, shapeCast_apply w _ _ (ix3 (0 : Fin 1) k c)]
  rw [Shape.rowMajor_val_two, Shape.rowMajor_val_three]
  show (0 * 4096 + k.val) * 512 + c.val = k.val * 512 + c.val
  omega

theorem wTile_apply (g : Vec Ideal S4096x8192 .f32) (b : Fin 8) (t : Fin 2) (k : Fin 4096) (c : Fin 512) (C : Fin 8192)
    (hC : C.val = 1024 * b.val + 512 * t.val + c.val) : wTile g b t (ix3 (0 : Fin 1) k c) = g (ix2 k C) := by
  unfold wTile
  rw [shapeCast_apply _ _ _ (ix2 k c)]
  · exact congrArg (fun t => g (ix2 k t)) (Fin.ext hC.symm)
  · rw [Shape.rowMajor_val_two, Shape.rowMajor_val_three]
    show k.val * 512 + c.val = (0 * 4096 + k.val) * 512 + c.val
    omega

variable (m : (ℓ : Loc nD τ sig) → Buf (Elt Ideal) ℓ)
variable (X : FVec Ideal ⟨2, ![4096, 4096]⟩ .f32) (W : FVec Ideal ⟨2, ![4096, 8192]⟩ .f32)

/-- Device `d`'s block of the product is the whole product's. -/
theorem yOf_apply (d : Dev nD) (b : Fin 8)
    (hX : ∀ (r : Fin 512) (k : Fin 4096), xs m d (ix2 r k) = X (ix2 ⟨512 * d.val + r.val, by have : d.val < 8 := d.isLt; omega⟩ k))
    (hW : gs m d = W) (r : Fin 512) (c : Fin 1024) :
    yOf m d b (ix2 r c) = Cert.ReferenceIdeal.Rf.blockOf X W d b r c := by
  unfold yOf yJoin Cert.ReferenceIdeal.Rf.blockOf Cert.ReferenceIdeal.Rf.prod
  rw [hW]
  have b8 := b.isLt
  split
  · rename_i h
    have h' : c.val < 512 := h
    refine (tile_apply _ _ r ⟨c.val, h'⟩).trans (Finset.sum_congr rfl fun k _ => ?_)
    rw [hX, wTile_apply W b 0 k ⟨c.val, h'⟩ ⟨1024 * b.val + c.val, by omega⟩ (by show 1024 * b.val + c.val = 1024 * b.val + 512 * 0 + c.val; omega)]
  · rename_i h
    have h' : ¬ c.val < 512 := h
    refine (tile_apply _ _ r ⟨c.val - 512, by omega⟩).trans (Finset.sum_congr rfl fun k _ => ?_)
    rw [hX, wTile_apply W b 1 k ⟨c.val - 512, by omega⟩ ⟨1024 * b.val + c.val, by omega⟩
      (by show 1024 * b.val + c.val = 1024 * b.val + 512 * 1 + (c.val - 512); omega)]

/-- The scale row's first entry is the step. -/
theorem scale_first (y : FVec Ideal S512x1024 .f32) (i : S1x128.Idx) : scaleVal y i = k0_pay3 y := rfl

/-- An entry of the kernel's result. -/
theorem outAt_apply (c : Dev nD)
    (hX : ∀ (d : Dev nD) (r : Fin 512) (k : Fin 4096), xs m d (ix2 r k) = X (ix2 ⟨512 * d.val + r.val, by have : d.val < 8 := d.isLt; omega⟩ k))
    (hW : ∀ d, gs m d = W) (R : Fin 4096) (C : Fin 1024) :
    outAt m c (ix2 R C) = restored (Cert.ReferenceIdeal.Rf.blockOf X W (⟨R.val / 512, by omega⟩ : Fin 8) c) ⟨R.val % 512, by omega⟩ C := by
  unfold outAt oJoin oOf
  refine (out_restored (yOf m (⟨R.val / 512, by omega⟩ : Fin 8) c) _ (scale_first _ _) ⟨R.val % 512, by omega⟩ C).trans ?_
  congr 1
  funext r k
  exact yOf_apply m X W _ c (hX _) (hW _) r k

end Cert.KernelIdeal.Pf
-- ==== Proof.Value.lean ====
/-
The value claim: from agreeing arguments, each device's result is its block of columns of the reference's.
-/
module

public import proofs.«01_k».proof.Defs
public import proofs.«01_k».proof.Proof.KerValue
public import proofs.«01_k».proof.Proof.Gen.KernelIdeal
public import proofs.«01_k».proof.Proof.Gen.ReferenceIdeal.Run

@[expose] public section

noncomputable section

namespace Cert.KernelIdeal.Pf

open Idealize.ShloMosaic Idealize.ShloMosaic.TcCoe Idealize.ShloMosaic.ValueIdx
open Idealize.SL.Sem

/-- Device `c`'s computed contents are block `c` of the reference's result. -/
theorem outAt_eq (m : (ℓ : Loc nD τ sig) → Buf (Elt Ideal) ℓ)
    (X : FVec Ideal ⟨2, ![4096, 4096]⟩ .f32) (W : FVec Ideal ⟨2, ![4096, 8192]⟩ .f32)
    (hX : ∀ d : Dev nD, m ((d.tc : Thread nD τ).loc main_arg0) = Layout.block ⟨2, ![512, 4096]⟩ ⟨2, ![4096, 4096]⟩ 0 8 d X)
    (hW : ∀ d : Dev nD, m ((d.tc : Thread nD τ).loc main_arg1) = W) (c : Dev nD) :
    outAt m c = Layout.block ⟨2, ![4096, 1024]⟩ ⟨2, ![4096, 8192]⟩ 1 8 c (Cert.ReferenceIdeal.Rf.out X W) := by
  have hx : ∀ (d : Dev nD) (r : Fin 512) (k : Fin 4096), xs m d (ix2 r k) = X (ix2 ⟨512 * d.val + r.val, by have : d.val < 8 := d.isLt; omega⟩ k) := by
    intro d r k
    unfold xs
    rw [show _ = m ((d.tc : Thread nD τ).loc main_arg0) from blk_x _, hX d, Layout.block_apply]
    refine congrArg X ?_
    funext a
    match a with
    | ⟨0, _⟩ => exact Fin.ext (by show d.val * 512 + r.val = 512 * d.val + r.val; omega)
    | ⟨1, _⟩ => rfl
  funext i
  obtain ⟨R, C, rfl⟩ : ∃ (R : Fin 4096) (C : Fin 1024), i = ix2 R C := ⟨i 0, i 1, eq_ix2 i⟩
  rw [outAt_apply m X W c hx hW R C, Layout.block_apply]
  have c8 : c.val < 8 := c.isLt
  have hR : R.val = 512 * (R.val / 512) + R.val % 512 := by omega
  have e := Cert.ReferenceIdeal.Rf.out_apply X W (⟨R.val / 512, by omega⟩ : Fin 8) (⟨R.val % 512, by omega⟩ : Fin 512) c C R ⟨1024 * c.val + C.val, by omega⟩ hR rfl
  rw [← e]
  refine congrArg (Cert.ReferenceIdeal.Rf.out X W) ?_
  funext a
  match a with
  | ⟨0, _⟩ => rfl
  | ⟨1, _⟩ => exact Fin.ext (by show 1024 * c.val + C.val = c.val * 1024 + C.val; omega)

theorem algebraic : Cert.algebraic_KernelIdeal_ReferenceIdeal (hKernelIdeal := Cert.KernelIdeal.Gen.facts)
    (hReferenceIdeal := Cert.ReferenceIdeal.Gen.facts) := by
  intro m g m' g' _ hag
  refine ⟨Cert.ReferenceIdeal.Rf.out (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run _ _ _).mono (fun _ h c => ⟨(h.1 c).1.trans (outAt_eq m _ _ (fun d => (hag d).1) (fun d => (hag d).2) c), (h.1 c).2⟩) (run m g)
  · exact (θ_run _ _ _).mono (fun _ h => h 0) (Cert.ReferenceIdeal.Value.run m' g')

end Cert.KernelIdeal.Pf
-- ==== Proof.lean ====
/- The proof of the certificate's claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  KernelIdeal.Pf.frameK, KernelIdeal.Pf.frameI, KernelIdeal.Pf.frameR, trivial, KernelIdeal.Pf.algebraic⟩

end Cert.Proof

end
